-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_router_finite : Cert.Pre_router_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ preserves_Kernel_KernelIdeal
    ∧ algebraic_KernelIdeal_ReferenceIdeal_pre_router_finite (hKernelIdeal := hKernelIdeal) (hReferenceIdeal := hReferenceIdeal) (hPre_router_finite := hPre_router_finite)
-- ==== Pre_router_finite.lean ====
abbrev S1x2048x768 : Shape := ⟨3, ![1, 2048, 768]⟩
abbrev S768x8 : Shape := ⟨2, ![768, 8]⟩
abbrev S8 : Shape := ⟨1, ![8]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S2048x768 : Shape := ⟨2, ![2048, 768]⟩
abbrev S2048x8 : Shape := ⟨2, ![2048, 8]⟩
abbrev S1x8 : Shape := ⟨2, ![1, 8]⟩
abbrev S_ : Shape := ⟨0, ![]⟩

class Facts : Prop where
  shapeCasts_S1x2048x768_S2048x768 : S1x2048x768.ShapeCasts S2048x768
  bcast_S8_S1x8_1 : S8.BroadcastsInDim S1x8 (![1] : Fin 1 → Fin S1x8.rank)
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  reducesTo_S2048x8_S_d0_1 : S2048x8.ReducesTo [0, 1] S_
  h_S_ : 0 < S_.numel
  dot_S2048x768_S768x8_S2048x8_1_0_0_1_n_n_wf : DotDims.WF S2048x768 S768x8 S2048x8 [1] [0] [0] [1] [] []

variable [Facts]

def dot_S2048x768_S768x8_S2048x8_1_0_0_1_n_n : DotDims S2048x768 S768x8 S2048x8 where
  lhsContracting := [1]
  rhsContracting := [0]
  lhsNonContracting := [0]
  rhsNonContracting := [1]
  lhsBatch := []
  rhsBatch := []
  wf := dot_S2048x768_S768x8_S2048x8_1_0_0_1_n_n_wf
def fn {F : FTy → Type} [FloatOps F] (main_arg0 : FVec F S1x2048x768 .f32) (main_arg1 : FVec F S768x8 .f32) (main_arg2 : FVec F S8 .f32) (main_arg3 : FVec F S768x3072 .f32) (main_arg4 : FVec F S3072 .f32) (main_arg5 : FVec F S3072x768 .f32) (main_arg6 : FVec F S768 .f32) : IVec S_ 1 :=
  let main_v0 : FVec F S2048x768 .f32 := shapeCast S2048x768 main_arg0 shapeCasts_S1x2048x768_S2048x768
  let main_v1 : FVec F S2048x8 .f32 := (fun l r => Host.dotGeneral dot_S2048x768_S768x8_S2048x8_1_0_0_1_n_n none l r) main_v0 main_arg1
  let main_v2 : FVec F S1x8 .f32 := broadcastInDim S1x8 ![1] bcast_S8_S1x8_1 main_arg2
  let main_v3 : FVec F S2048x8 .f32 := broadcastInDim S2048x8 ![0, 1] bcast_S1x8_S2048x8_0_1 main_v2
  let main_v4 : FVec F S2048x8 .f32 := addf main_v1 main_v3
  let main_v5 : FVec F S2048x8 .f32 := Host.absf main_v4
  let main_cst : FVec F S_ .f32 := constant S_ .f32 0x7F800000#32
  let main_v6 : FVec F S2048x8 .f32 := broadcastInDim S2048x8 ![] bcast_S_S2048x8 main_cst
  let main_v7 : IVec S2048x8 1 := cmpf .olt main_v5 main_v6
  let main_c : IVec S_ 1 := constantI S_ 1 1#1
  let main_v8 : IVec S_ 1 := (fun x v => Host.reduce IntOp.andi x v reducesTo_S2048x8_S_d0_1 h_S_) main_v7 main_c
  main_v8
-- ==== Kernel.lean ====
abbrev S1x2048x768 : Shape := ⟨3, ![1, 2048, 768]⟩
abbrev S768x8 : Shape := ⟨2, ![768, 8]⟩
abbrev S8 : Shape := ⟨1, ![8]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S2048x768 : Shape := ⟨2, ![2048, 768]⟩
abbrev S1x3072 : Shape := ⟨2, ![1, 3072]⟩
abbrev S1x768 : Shape := ⟨2, ![1, 768]⟩
abbrev S256x768 : Shape := ⟨2, ![256, 768]⟩
abbrev S2048x3072 : Shape := ⟨2, ![2048, 3072]⟩
abbrev S768x768 : Shape := ⟨2, ![768, 768]⟩
abbrev S4 : Shape := ⟨1, ![4]⟩
abbrev S1 : Shape := ⟨1, ![1]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S2048x768, .f32⟩
  | .hbm, ⟨8, _⟩ => ⟨S1x3072, .f32⟩
  | .hbm, ⟨9, _⟩ => ⟨S1x768, .f32⟩
  | .hbm, ⟨10, _⟩ => ⟨S2048x768, .f32⟩
  | .hbm, ⟨11, _⟩ => ⟨S1x2048x768, .f32⟩
  | .local _ .vmem, ⟨0, _⟩ => ⟨S2048x768, .f32⟩
  | .local _ .vmem, ⟨1, _⟩ => ⟨S1x3072, .f32⟩
  | .local _ .vmem, ⟨2, _⟩ => ⟨S1x768, .f32⟩
  | .local _ .vmem, ⟨3, _⟩ => ⟨S256x768, .f32⟩
  | .local _ .vmem, ⟨4, _⟩ => ⟨S256x768, .f32⟩
  | .local _ .vmem, ⟨5, _⟩ => ⟨S2048x768, .bf16⟩
  | .local _ .vmem, ⟨6, _⟩ => ⟨S2048x3072, .bf16⟩
  | .local _ .vmem, ⟨7, _⟩ => ⟨S2048x768, .f32⟩
  | .local _ .vmem, ⟨8, _⟩ => ⟨S768x3072, .f32⟩
  | .local _ .vmem, ⟨9, _⟩ => ⟨S3072x768, .f32⟩
  | .local _ .vmem, ⟨10, _⟩ => ⟨S768x768, .bf16⟩
  | .local _ .vmem, ⟨11, _⟩ => ⟨S3072x768, .bf16⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![12], ![false]⟩

def k0_cond10 (i : grid0.Coords) : BitVec 1 :=
  let arg0 : BitVec 32 := BitVec.ofNat 32 (i 0).val
  let c4_i32_13 : BitVec 32 := 4#32
  let v27 : BitVec 1 := Scalar.cmpi .eq arg0 c4_i32_13
  let v28 : BitVec 32 := Scalar.extui v27
  let c0_i32_14 : BitVec 32 := 0#32
  let v29 : BitVec 1 := Scalar.cmpi .ne v28 c0_i32_14
  v29

def k0_cond11 (i : grid0.Coords) : BitVec 1 :=
  let arg0 : BitVec 32 := BitVec.ofNat 32 (i 0).val
  let c5_i32 : BitVec 32 := 5#32
  let v30 : BitVec 1 := Scalar.cmpi .eq arg0 c5_i32
  let v31 : BitVec 32 := Scalar.extui v30
  let c0_i32_15 : BitVec 32 := 0#32
  let v32 : BitVec 1 := Scalar.cmpi .ne v31 c0_i32_15
  v32

def k0_cond12 (i : grid0.Coords) : BitVec 1 :=
  let arg0 : BitVec 32 := BitVec.ofNat 32 (i 0).val
  let c6_i32 : BitVec 32 := 6#32
  let v33 : BitVec 1 := Scalar.cmpi .eq arg0 c6_i32
  let v34 : BitVec 32 := Scalar.extui v33
  let c0_i32_16 : BitVec 32 := 0#32
  let v35 : BitVec 1 := Scalar.cmpi .ne v34 c0_i32_16
  v35

def k0_cond13 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_17 : BitVec 32 := 0#32
  let v38 : BitVec 1 := Scalar.cmpi .ne v37 c0_i32_17
  v38

def k0_cond14 (i : grid0.Coords) : BitVec 1 :=
  let arg0 : BitVec 32 := BitVec.ofNat 32 (i 0).val
  let c8_i32 : BitVec 32 := 8#32
  let v39 : BitVec 1 := Scalar.cmpi .eq arg0 c8_i32
  let v40 : BitVec 32 := Scalar.extui v39
  let c0_i32_18 : BitVec 32 := 0#32
  let v41 : BitVec 1 := Scalar.cmpi .ne v40 c0_i32_18
  v41

def k0_cond15 (i : grid0.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_19 : BitVec 32 := 0#32
  let v44 : BitVec 1 := Scalar.cmpi .ne v43 c0_i32_19
  v44

def k0_cond16 (i : grid0.Coords) : BitVec 1 :=
  let arg0 : BitVec 32 := BitVec.ofNat 32 (i 0).val
  let c10_i32 : BitVec 32 := 10#32
  let v45 : BitVec 1 := Scalar.cmpi .eq arg0 c10_i32
  let v46 : BitVec 32 := Scalar.extui v45
  let c0_i32_20 : BitVec 32 := 0#32
  let v47 : BitVec 1 := Scalar.cmpi .ne v46 c0_i32_20
  v47

def k0_cond17 (i : grid0.Coords) : BitVec 1 :=
  let arg0 : BitVec 32 := BitVec.ofNat 32 (i 0).val
  let c11_i32 : BitVec 32 := 11#32
  let v48 : BitVec 1 := Scalar.cmpi .eq arg0 c11_i32
  let v49 : BitVec 32 := Scalar.extui v48
  let c0_i32_21 : BitVec 32 := 0#32
  let v50 : BitVec 1 := Scalar.cmpi .ne v49 c0_i32_21
  v50

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x2048x768 : Shape := ⟨3, ![1, 2048, 768]⟩
abbrev S768x8 : Shape := ⟨2, ![768, 8]⟩
abbrev S8 : Shape := ⟨1, ![8]⟩
abbrev S768x3072 : Shape := ⟨2, ![768, 3072]⟩
abbrev S3072 : Shape := ⟨1, ![3072]⟩
abbrev S3072x768 : Shape := ⟨2, ![3072, 768]⟩
abbrev S768 : Shape := ⟨1, ![768]⟩
abbrev S2048x768 : Shape := ⟨2, ![2048, 768]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x8x1 : Shape := ⟨3, ![2048, 8, 1]⟩
abbrev S2048x1x2048 : Shape := ⟨3, ![2048, 1, 2048]⟩
abbrev S2048x8x2048 : Shape := ⟨3, ![2048, 8, 2048]⟩
abbrev S8x2048x768 : Shape := ⟨3, ![8, 2048, 768]⟩
abbrev S8x2048x3072 : Shape := ⟨3, ![8, 2048, 3072]⟩
abbrev S1x1x3072 : Shape := ⟨3, ![1, 1, 3072]⟩
abbrev S1x1x768 : Shape := ⟨3, ![1, 1, 768]⟩

abbrev nBuf : Space → Nat
  | .hbm => 141
  | .vmem => 0
  | .smem => 0
  | _ => 0

abbrev hbmTy0_0 (i : Nat) : BufTy := match i % 128 with
  | 0 => ⟨S1x2048x768, .f32⟩
  | 1 => ⟨S768x8, .f32⟩
  | 2 => ⟨S8, .f32⟩
  | 3 => ⟨S768x3072, .f32⟩
  | 4 => ⟨S3072, .f32⟩
  | 5 => ⟨S3072x768, .f32⟩
  | 6 => ⟨S768, .f32⟩
  | 7 => ⟨S2048x768, .f32⟩
  | 8 => ⟨S2048x8, .f32⟩
  | 9 => ⟨S1x8, .f32⟩
  | 10 => ⟨S2048x8, .f32⟩
  | 11 => ⟨S2048x8, .f32⟩
  | 12 => ⟨S_, .f32⟩
  | 13 => ⟨S2048, .f32⟩
  | 14 => ⟨S_, .f32⟩
  | 15 => ⟨S2048, .f32⟩
  | 16 => ⟨S2048, .f32⟩
  | 17 => ⟨S2048x1, .f32⟩
  | 18 => ⟨S2048x8, .f32⟩
  | 19 => ⟨S2048x8, .f32⟩
  | 20 => ⟨S2048x8, .f32⟩
  | 21 => ⟨S_, .f32⟩
  | 22 => ⟨S2048, .f32⟩
  | 23 => ⟨S2048x1, .f32⟩
  | 24 => ⟨S2048x8, .f32⟩
  | 25 => ⟨S2048x8, .f32⟩
  | 26 => ⟨S2048x8, .i32⟩
  | 27 => ⟨S_, .f32⟩
  | 28 => ⟨S_, .i32⟩
  | 29 => ⟨S2048, .f32⟩
  | 30 => ⟨S2048, .i32⟩
  | 31 => ⟨S2048x1, .i32⟩
  | 32 => ⟨S1x8, .i32⟩
  | 33 => ⟨S2048x8, .i32⟩
  | 34 => ⟨S2048x8, .i32⟩
  | 35 => ⟨S2048x8, .i1⟩
  | 36 => ⟨S2048x8, .f32⟩
  | 37 => ⟨S_, .f32⟩
  | 38 => ⟨S2048x8, .f32⟩
  | 39 => ⟨S2048x8, .i1⟩
  | 40 => ⟨S2048x8, .i1⟩
  | 41 => ⟨S_, .f32⟩
  | 42 => ⟨S_, .f32⟩
  | 43 => ⟨S2048x8, .f32⟩
  | 44 => ⟨S2048x8, .f32⟩
  | 45 => ⟨S2048x8, .i32⟩
  | 46 => ⟨S_, .f32⟩
  | 47 => ⟨S_, .i32⟩
  | 48 => ⟨S2048, .f32⟩
  | 49 => ⟨S2048, .i32⟩
  | 50 => ⟨S2048x1, .i32⟩
  | 51 => ⟨S1x8, .i32⟩
  | 52 => ⟨S2048x8, .i32⟩
  | 53 => ⟨S2048x8, .i32⟩
  | 54 => ⟨S2048x8, .i1⟩
  | 55 => ⟨S2048x8, .f32⟩
  | 56 => ⟨S_, .f32⟩
  | 57 => ⟨S_, .f32⟩
  | 58 => ⟨S2048x8, .f32⟩
  | 59 => ⟨S_, .f32⟩
  | 60 => ⟨S2048x8, .f32⟩
  | 61 => ⟨S2048x8, .f32⟩
  | 62 => ⟨S_, .f32⟩
  | 63 => ⟨S_, .f32⟩
  | 64 => ⟨S2048x8, .f32⟩
  | 65 => ⟨S_, .f32⟩
  | 66 => ⟨S2048x8, .f32⟩
  | 67 => ⟨S2048x8, .f32⟩
  | 68 => ⟨S_, .f32⟩
  | 69 => ⟨S8, .f32⟩
  | 70 => ⟨S1x8, .f32⟩
  | 71 => ⟨S2048x8, .f32⟩
  | 72 => ⟨S2048x8, .f32⟩
  | 73 => ⟨S2048x8, .f32⟩
  | 74 => ⟨S_, .f32⟩
  | 75 => ⟨S2048, .f32⟩
  | 76 => ⟨S2048x8, .f32⟩
  | 77 => ⟨S_, .f32⟩
  | 78 => ⟨S2048, .f32⟩
  | 79 => ⟨S2048x8, .f32⟩
  | 80 => ⟨S_, .f32⟩
  | 81 => ⟨S2048, .f32⟩
  | 82 => ⟨S2048x8, .f32⟩
  | 83 => ⟨S_, .f32⟩
  | 84 => ⟨S2048, .f32⟩
  | 85 => ⟨S2048, .f32⟩
  | 86 => ⟨S_, .f32⟩
  | 87 => ⟨S2048, .f32⟩
  | 88 => ⟨S2048, .f32⟩
  | 89 => ⟨S2048, .f32⟩
  | 90 => ⟨S2048, .f32⟩
  | 91 => ⟨S2048x1, .f32⟩
  | 92 => ⟨S2048x8, .f32⟩
  | 93 => ⟨S2048x8, .f32⟩
  | 94 => ⟨S2048x1, .f32⟩
  | 95 => ⟨S2048x8, .f32⟩
  | 96 => ⟨S2048x8, .f32⟩
  | 97 => ⟨S2048, .i32⟩
  | 98 => ⟨S2048x1, .i32⟩
  | 99 => ⟨S1x2048, .i32⟩
  | 100 => ⟨S2048x2048, .i32⟩
  | 101 => ⟨S2048x2048, .i32⟩
  | 102 => ⟨S2048x2048, .i1⟩
  | 103 => ⟨S2048x2048, .f32⟩
  | 104 => ⟨S2048, .i32⟩
  | 105 => ⟨S2048x1, .i32⟩
  | 106 => ⟨S1x2048, .i32⟩
  | 107 => ⟨S2048x2048, .i32⟩
  | 108 => ⟨S2048x2048, .i32⟩
  | 109 => ⟨S2048x2048, .i1⟩
  | 110 => ⟨S2048x2048, .f32⟩
  | 111 => ⟨S2048x8x1, .f32⟩
  | 112 => ⟨S2048x1x2048, .f32⟩
  | 113 => ⟨S2048x8x2048, .f32⟩
  | 114 => ⟨S2048x8x2048, .f32⟩
  | 115 => ⟨S2048x8x2048, .f32⟩
  | 116 => ⟨S2048x8x1, .f32⟩
  | 117 => ⟨S2048x1x2048, .f32⟩
  | 118 => ⟨S2048x8x2048, .f32⟩
  | 119 => ⟨S2048x8x2048, .f32⟩
  | 120 => ⟨S2048x8x2048, .f32⟩
  | 121 => ⟨S2048x8x2048, .f32⟩
  | 122 => ⟨S_, .f32⟩
  | 123 => ⟨S2048x8x2048, .f32⟩
  | 124 => ⟨S2048x8x2048, .i1⟩
  | 125 => ⟨S2048x8x2048, .i1⟩
  | 126 => ⟨S2048x8x2048, .f32⟩
  | 127 => ⟨S8x2048x768, .f32⟩
  | _ => ⟨S1x2048x768, .f32⟩

abbrev hbmTy0_1 (i : Nat) : BufTy := match i % 128 with
  | 0 => ⟨S8x2048x3072, .f32⟩
  | 1 => ⟨S1x1x3072, .f32⟩
  | 2 => ⟨S8x2048x3072, .f32⟩
  | 3 => ⟨S8x2048x3072, .f32⟩
  | 4 => ⟨S_, .f32⟩
  | 5 => ⟨S8x2048x3072, .f32⟩
  | 6 => ⟨S8x2048x3072, .f32⟩
  | 7 => ⟨S8x2048x768, .f32⟩
  | 8 => ⟨S1x1x768, .f32⟩
  | 9 => ⟨S8x2048x768, .f32⟩
  | 10 => ⟨S8x2048x768, .f32⟩
  | 11 => ⟨S2048x768, .f32⟩
  | 12 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v16 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_call2_v0 : Ref sig .tc := ⟨.hbm, 42, rfl⟩
abbrev main_call2_v1 : Ref sig .tc := ⟨.hbm, 43, rfl⟩
abbrev main_v21 : Ref sig .tc := ⟨.hbm, 44, rfl⟩
abbrev main_call3_v0 : Ref sig .tc := ⟨.hbm, 45, rfl⟩
abbrev main_call3_cst : Ref sig .tc := ⟨.hbm, 46, rfl⟩
abbrev main_call3_c : Ref sig .tc := ⟨.hbm, 47, rfl⟩
abbrev main_call3_v1_0 : Ref sig .tc := ⟨.hbm, 48, rfl⟩
abbrev main_v22 : Ref sig .tc := ⟨.hbm, 49, rfl⟩
abbrev main_call4_v0 : Ref sig .tc := ⟨.hbm, 50, rfl⟩
abbrev main_call4_v1 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_v23 : Ref sig .tc := ⟨.hbm, 55, rfl⟩
abbrev main_call5_call0_cst : Ref sig .tc := ⟨.hbm, 56, rfl⟩
abbrev main_call5_call0_v0 : Ref sig .tc := ⟨.hbm, 57, rfl⟩
abbrev main_v24 : Ref sig .tc := ⟨.hbm, 58, rfl⟩
abbrev main_cst_4 : Ref sig .tc := ⟨.hbm, 59, rfl⟩
abbrev main_v25 : Ref sig .tc := ⟨.hbm, 60, rfl⟩
abbrev main_v26 : Ref sig .tc := ⟨.hbm, 61, rfl⟩
abbrev main_call6_call0_cst : Ref sig .tc := ⟨.hbm, 62, rfl⟩
abbrev main_call6_call0_v0 : Ref sig .tc := ⟨.hbm, 63, rfl⟩
abbrev main_v27 : Ref sig .tc := ⟨.hbm, 64, rfl⟩
abbrev main_cst_5 : Ref sig .tc := ⟨.hbm, 65, rfl⟩
abbrev main_v28 : Ref sig .tc := ⟨.hbm, 66, rfl⟩
abbrev main_v29 : Ref sig .tc := ⟨.hbm, 67, rfl⟩
abbrev main_cst_6 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_7 : Ref sig .tc := ⟨.hbm, 74, rfl⟩
abbrev main_v35 : Ref sig .tc := ⟨.hbm, 75, rfl⟩
abbrev main_v36 : Ref sig .tc := ⟨.hbm, 76, rfl⟩
abbrev main_cst_8 : Ref sig .tc := ⟨.hbm, 77, rfl⟩
abbrev main_v37 : Ref sig .tc := ⟨.hbm, 78, rfl⟩
abbrev main_v38 : Ref sig .tc := ⟨.hbm, 79, rfl⟩
abbrev main_cst_9 : Ref sig .tc := ⟨.hbm, 80, rfl⟩
abbrev main_v39 : Ref sig .tc := ⟨.hbm, 81, rfl⟩
abbrev main_v40 : Ref sig .tc := ⟨.hbm, 82, rfl⟩
abbrev main_cst_10 : Ref sig .tc := ⟨.hbm, 83, rfl⟩
abbrev main_v41 : Ref sig .tc := ⟨.hbm, 84, rfl⟩
abbrev main_v42 : Ref sig .tc := ⟨.hbm, 85, rfl⟩
abbrev main_cst_11 : Ref sig .tc := ⟨.hbm, 86, rfl⟩
abbrev main_call7_v0 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call8_v0 : Ref sig .tc := ⟨.hbm, 98, rfl⟩
abbrev main_call8_v1 : Ref sig .tc := ⟨.hbm, 99, rfl⟩
abbrev main_call8_v2 : Ref sig .tc := ⟨.hbm, 100, rfl⟩
abbrev main_call8_v3 : Ref sig .tc := ⟨.hbm, 101, rfl⟩
abbrev main_call8_v4 : Ref sig .tc := ⟨.hbm, 102, rfl⟩
abbrev main_v53 : Ref sig .tc := ⟨.hbm, 103, rfl⟩
abbrev main_v54 : Ref sig .tc := ⟨.hbm, 104, rfl⟩
abbrev main_call9_v0 : Ref sig .tc := ⟨.hbm, 105, rfl⟩
abbrev main_call9_v1 : Ref sig .tc := ⟨.hbm, 106, rfl⟩
abbrev main_call9_v2 : Ref sig .tc := ⟨.hbm, 107, rfl⟩
abbrev main_call9_v3 : Ref sig .tc := ⟨.hbm, 108, rfl⟩
abbrev main_call9_v4 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_12 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_call10_cst : Ref sig .tc := ⟨.hbm, 132, rfl⟩
abbrev main_call10_v0 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩

abbrev nD : Nat := 1
abbrev τ : Topo := Topo.v7x

variable {F : FTy → Type} [FloatOps F]
-- ==== Proof.KernelSetup.lean ====
/-
  The launch set-up of the kernel: the user algebra, the operands' names, the eight transfer cells and the chunks of the
  weight matrices, with the split of the launch invariant into them.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Ring
public import Idealize.ShloMosaic.Lib.VecWindow
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-! ## The body's own buffers -/

/-- The activations in bf16. -/
abbrev scXb : Memref sig .tc .vmem S2048x768 .bf16 := Memref.whole cc0_scratch0
/-- The hidden layer in bf16. -/
abbrev scH : Memref sig .tc .vmem S2048x3072 .bf16 := Memref.whole cc0_scratch1
/-- The accumulator of the second product. -/
abbrev scY : Memref sig .tc .vmem S2048x768 .f32 := Memref.whole cc0_scratch2
/-- The first weight matrix, as fetched. -/
abbrev scW1 : Memref sig .tc .vmem S768x3072 .f32 := Memref.whole cc0_scratch3
/-- The second weight matrix, as fetched. -/
abbrev scW2 : Memref sig .tc .vmem S3072x768 .f32 := Memref.whole cc0_scratch4
/-- One chunk of the first weight matrix in bf16. -/
abbrev scW1b : Memref sig .tc .vmem S768x768 .bf16 := Memref.whole cc0_scratch5
/-- The second weight matrix in bf16. -/
abbrev scW2b : Memref sig .tc .vmem S3072x768 .bf16 := Memref.whole cc0_scratch6
/-- The two weight matrices where they are left in HBM. -/
abbrev hbW1 : Memref sig .tc .hbm S768x3072 .f32 := Memref.whole main_arg3
abbrev hbW2 : Memref sig .tc .hbm S3072x768 .f32 := Memref.whole main_arg5

/-- What a whole memref's buffer holds. -/
abbrev HB (c : Dev nD) {sp : Space} {S : Shape} {e : EltTy} (M : Memref sig .tc sp S e) : Type := Buf (Elt F) (M.view.loc (c : Thread nD τ))
/-- A memref's elements held at given contents. -/
abbrev pt (c : Dev nD) {sp : Space} {S : Shape} {e : EltTy} (M : Memref sig .tc sp S e) (f : HB (F := F) c M) : sProp 𝕄 :=
  M.view.loc (c : Thread nD τ) ↦[M.view.set]{fullShare} f

/-! ## The chunks and their transfers -/

/-- A square chunk of columns of a 768 by 3072 array, and of rows of a 3072 by 768 array. -/
abbrev colCh {sp : Space} (M : Memref sig .tc sp S768x3072 .f32) (o : Fin 2 → ℕ) (h : ∀ a, o a + S768x768.size a ≤ S768x3072.size a) :
    Memref sig .tc sp S768x768 .f32 := M.slice (Rect.unit (s := S768x3072) o S768x768.size h) (fun _ => rfl)
abbrev rowCh {sp : Space} (M : Memref sig .tc sp S3072x768 .f32) (o : Fin 2 → ℕ) (h : ∀ a, o a + S768x768.size a ≤ S3072x768.size a) :
    Memref sig .tc sp S768x768 .f32 := M.slice (Rect.unit (s := S3072x768) o S768x768.size h) (fun _ => rfl)

section Chunks
variable (c : Dev nD) (j : Fin 4)

/-- The offsets of the chunks. -/
abbrev colOff (j : Fin 4) : Fin 2 → ℕ := match j with | 0 => ![0, 0] | 1 => ![0, 768] | 2 => ![0, 1536] | 3 => ![0, 2304]
abbrev rowOff (j : Fin 4) : Fin 2 → ℕ := match j with | 0 => ![0, 0] | 1 => ![768, 0] | 2 => ![1536, 0] | 3 => ![2304, 0]
theorem colInb : ∀ (j : Fin 4) (a), colOff j a + S768x768.size a ≤ S768x3072.size a := by decide
theorem rowInb : ∀ (j : Fin 4) (a), rowOff j a + S768x768.size a ≤ S3072x768.size a := by decide

/-- The words of a chunk of a weight matrix, as a transfer moves them. -/
abbrev w1pay (X : HB (F := F) c hbW1) : S768x768.Idx → Elt F .f32 := ReadAs.same.apply ((colCh hbW1 (colOff j) (colInb j)).view.read (Elt F) X)
abbrev w2pay (X : HB (F := F) c hbW2) : S768x768.Idx → Elt F .f32 := ReadAs.same.apply ((rowCh hbW2 (rowOff j) (rowInb j)).view.read (Elt F) X)

/-- A chunk of a weight matrix in HBM, held. -/
abbrev src1 (X : HB (F := F) c hbW1) : sProp 𝕄 := pt c (colCh hbW1 (colOff j) (colInb j)) X
abbrev src2 (X : HB (F := F) c hbW2) : sProp 𝕄 := pt c (rowCh hbW2 (rowOff j) (rowInb j)) X
/-- A chunk of the fetched copy, held at anything. -/
abbrev dst1 : sProp 𝕄 := iprop(∃ f, pt (F := F) c (colCh scW1 (colOff j) (colInb j)) f)
abbrev dst2 : sProp 𝕄 := iprop(∃ f, pt (F := F) c (rowCh scW2 (rowOff j) (rowInb j)) f)
/-- A chunk's transfer cell at zero. -/
abbrev cell1 : sProp 𝕄 := semVal ((c : Thread nD τ), SemLoc.dma (match j with | 0 => 5 | 1 => 6 | 2 => 7 | 3 => 8)) 0
abbrev cell2 : sProp 𝕄 := semVal ((c : Thread nD τ), SemLoc.dma (match j with | 0 => 9 | 1 => 10 | 2 => 11 | 3 => 12)) 0
/-- A chunk in flight: its transfer delivers the chunk's words into the fetched copy and the source back. -/
abbrev fl1 (X : HB (F := F) c hbW1) : sProp 𝕄 := iprop(∃ f,
  Transfers.Flight countersEmb (c : Thread nD τ) (SemLoc.dma (match j with | 0 => 5 | 1 => 6 | 2 => 7 | 3 => 8)) () 73728
    iprop(pt (F := F) c (colCh scW1 (colOff j) (colInb j)) ((colCh scW1 (colOff j) (colInb j)).view.writes (Elt F) f [⟨Rect.whole S768x768, w1pay c j X⟩]) ∗ src1 c j X))
abbrev fl2 (X : HB (F := F) c hbW2) : sProp 𝕄 := iprop(∃ f,
  Transfers.Flight countersEmb (c : Thread nD τ) (SemLoc.dma (match j with | 0 => 9 | 1 => 10 | 2 => 11 | 3 => 12)) () 73728
    iprop(pt (F := F) c (rowCh scW2 (rowOff j) (rowInb j)) ((rowCh scW2 (rowOff j) (rowInb j)).view.writes (Elt F) f [⟨Rect.whole S768x768, w2pay c j X⟩]) ∗ src2 c j X))

end Chunks

/-! ## The conditions -/

/-- The condition of a step: the step number compared with a literal. -/
abbrev cnd (k : BitVec 32) (i : grid0.Coords) : Prop :=
  Scalar.cmpi .ne (Scalar.extui (Scalar.cmpi .eq (BitVec.ofNat 32 (i 0).val) k) : BitVec 32) 0#32 = 1#1

theorem cnd_iff (k : BitVec 32) (i : grid0.Coords) : cnd k i ↔ BitVec.ofNat 32 (i 0).val = k := by
  unfold cnd
  generalize BitVec.ofNat 32 (i 0).val = x
  simp only [Scalar.cmpi, Scalar.extui, IntOp.cmpi]
  by_cases h : x = k
  · subst h; simp
  · have hb : (x == k) = false := by simpa using h
    rw [hb]; simp [h]

/-- A step's condition holds at its number and fails at every other. -/
theorem cnd_yes {i : grid0.Coords} {p : ℕ} {k : BitVec 32} (hi : (i 0).val = p) (h : BitVec.ofNat 32 p = k) : cnd k i :=
  (cnd_iff _ _).2 (by rw [hi]; exact h)
theorem cnd_no {i : grid0.Coords} {p : ℕ} {k : BitVec 32} (hi : (i 0).val = p) (h : BitVec.ofNat 32 p ≠ k) : ¬ cnd k i :=
  fun h' => h (by rw [← hi]; exact (cnd_iff _ _).1 h')

/-! ## The values the body computes -/

section Values
variable (c : Dev nD) (X1 : HB (F := F) c hbW1) (X2 : HB (F := F) c hbW2)
  (x0 : Vec F S2048x768 .f32) (bb : Fin 4 → Vec F S1x3072 .f32) (b2 : Vec F S1x768 .f32)

theorem hInb : ∀ (j : Fin 4) (a), colOff j a + S2048x768.size a ≤ S2048x3072.size a := by decide
theorem bInb : ∀ (j : Fin 4) (a), colOff j a + S1x768.size a ≤ S1x3072.size a := by decide
abbrev tileOff (t : Fin 8) : Fin 2 → ℕ := ![256 * t.val, 2304]
abbrev tileOffY (t : Fin 8) : Fin 2 → ℕ := ![256 * t.val, 0]
theorem tInb : ∀ (t : Fin 8) (a), tileOff t a + S256x768.size a ≤ S2048x3072.size a := by decide
theorem tyInb : ∀ (t : Fin 8) (a), tileOffY t a + S256x768.size a ≤ S2048x768.size a := by decide

/-- The activations in bf16. -/
def vXB : Vec F S2048x768 .bf16 := k0_pay9 (View.ld x0 (Rect.unit (s := S2048x768) ![0, 0] S2048x768.size inb_S2048x768_S2048x768_0_0))
/-- A chunk of a weight matrix in bf16. -/
def vW1B (j : Fin 4) : Vec F S768x768 .bf16 := k0_pay10 (w1pay c j X1)
def vW2B (j : Fin 4) : Vec F S768x768 .bf16 := k0_pay10 (w2pay c j X2)
/-- A chunk of columns of the hidden layer. -/
def vH (j : Fin 4) : Vec F S2048x768 .bf16 :=
  k0_pay11 (vXB x0) (vW1B c X1 j) (View.ld (bb j) (Rect.unit (s := S1x3072) (colOff j) S1x768.size (bInb j)))
/-- The accumulator after one, two and three chunks. -/
def vY0 : Vec F S2048x768 .f32 :=
  k0_pay19 (vH c X1 x0 bb 0) (vW2B c X2 0) (View.ld b2 (Rect.unit (s := S1x768) ![0, 0] S1x768.size inb_S1x768_S1x768_0_0))
def vY1 : Vec F S2048x768 .f32 := k0_pay21 (vH c X1 x0 bb 1) (vW2B c X2 1) (vY0 c X1 X2 x0 bb b2)
def vY2 : Vec F S2048x768 .f32 := k0_pay21 (vH c X1 x0 bb 2) (vW2B c X2 2) (vY1 c X1 X2 x0 bb b2)

/-- A rectangle of the whole shape, a chunk of columns and a chunk of rows, as the body writes them. -/
abbrev rAll : Rect S2048x768 := Rect.unit (s := S2048x768) ![0, 0] S2048x768.size inb_S2048x768_S2048x768_0_0
abbrev rH (j : Fin 4) : Rect S2048x3072 := Rect.unit (s := S2048x3072) (colOff j) S2048x768.size (hInb j)
abbrev rW2 (j : Fin 4) : Rect S3072x768 := Rect.unit (s := S3072x768) (rowOff j) S768x768.size (rowInb j)

/-- A tile of the result: the accumulator's tile plus the last chunk's product. -/
def vOut (t : Fin 8) : Vec F S256x768 .f32 :=
  k0_pay1 (View.ld (View.canon (Val := Elt F) [⟨rH 3, vH c X1 x0 bb 3⟩]) (Rect.unit (s := S2048x3072) (tileOff t) S256x768.size (tInb t)))
    (vW2B c X2 3)
    (View.ld (View.canon (Val := Elt F) [⟨rAll, vY2 c X1 X2 x0 bb b2⟩]) (Rect.unit (s := S2048x768) (tileOffY t) S256x768.size (tyInb t)))

end Values

/-! ## The states between the points -/

section States
variable (c : Dev nD)

/-- A chunk's source, destination and cell, free. -/
abbrev free1 (j : Fin 4) (X1 : HB (F := F) c hbW1) : sProp 𝕄 := iprop(src1 c j X1 ∗ dst1 (F := F) c j ∗ cell1 (F := F) c j)
abbrev free2 (j : Fin 4) (X2 : HB (F := F) c hbW2) : sProp 𝕄 := iprop(src2 c j X2 ∗ dst2 (F := F) c j ∗ cell2 (F := F) c j)

/-- A buffer held at anything. -/
abbrev stAny {sp : Space} {S : Shape} {e : EltTy} (M : Memref sig .tc sp S e) : sProp 𝕄 := iprop(∃ f, pt (F := F) c M f)
/-- A buffer held with one written piece, at anything elsewhere. -/
abbrev stP {sp : Space} {S : Shape} {e : EltTy} (M : Memref sig .tc sp S e) (r : Rect S) (v : r.shape.Idx → Elt F e) : sProp 𝕄 :=
  iprop(∃ f, pt (F := F) c M (M.view.writes (Elt F) f [⟨r, v⟩]))

end States

/-- Held contents that read `x` are `x` owned. -/
theorem owns_back (c : Dev nD) {sp : Space} {S : Shape} {e : EltTy} {M : Memref sig .tc sp S e} {x : S.Idx → Elt F e} {f : HB (F := F) c M}
    (h : M.view.read (Elt F) f = x) : (pt (F := F) c M f : sProp 𝕄) ⊢ iprop(∃ f : HB (F := F) c M, ⌜M.view.read (Elt F) f = x⌝ ∗ pt (F := F) c M f) := by
  iintro H; iexists f; isplitr
  · ipureintro; exact h
  iexact H

/-- What older stores left under a last one is anything. -/
theorem absorb (c : Dev nD) {sp : Space} {S : Shape} {e : EltTy} {M : Memref sig .tc sp S e} {f : HB (F := F) c M} {r : Rect S}
    {v : r.shape.Idx → Elt F e} {L : List (View.Piece (Elt F) S e)} :
    (pt (F := F) c M (M.view.writes (Elt F) f (⟨r, v⟩ :: L)) : sProp 𝕄) ⊢ stP c M r v := by
  iintro H; iexists (M.view.writes (Elt F) f L); iexact H

/-- What a load of a landed chunk reads: the words that landed. -/
theorem landed1 {o : Fin 2 → ℕ} (h : ∀ a, o a + (![768, 768] : Fin 2 → ℕ) a ≤ S768x3072.size a) (g) (P : S768x768.Idx → Elt F .f32) :
    View.readAt (Elt F) (View.whole cc0_scratch3) (Rect.unit (s := S768x3072) o ![768, 768] h).toLoadRect
      (((View.whole cc0_scratch3).slice (Rect.unit (s := S768x3072) o ![768, 768] h)).writes (Elt F) g [⟨Rect.whole S768x768, P⟩]) = P :=
  View.read_writes_full (colCh scW1 o h).view g (off := fun _ => 0) (fun a => by simp) P []
theorem landed2 {o : Fin 2 → ℕ} (h : ∀ a, o a + (![768, 768] : Fin 2 → ℕ) a ≤ S3072x768.size a) (g) (P : S768x768.Idx → Elt F .f32) :
    View.readAt (Elt F) (View.whole cc0_scratch4) (Rect.unit (s := S3072x768) o ![768, 768] h).toLoadRect
      (((View.whole cc0_scratch4).slice (Rect.unit (s := S3072x768) o ![768, 768] h)).writes (Elt F) g [⟨Rect.whole S768x768, P⟩]) = P :=
  View.read_writes_full (rowCh scW2 o h).view g (off := fun _ => 0) (fun a => by simp) P []

/-! ## Loads of a chunk over another chunk's store, and the payloads the program states several times -/

/-- A load of a chunk of columns the last store left alone reads the store before. -/
theorem otherChunk {o o' : Fin 2 → ℕ} (h : ∀ a, o a + (![2048, 768] : Fin 2 → ℕ) a ≤ S2048x3072.size a)
    (h' : ∀ a, o' a + (![2048, 768] : Fin 2 → ℕ) a ≤ S2048x3072.size a) (v w : S2048x768.Idx → Elt F .bf16) (ho : o 1 + 768 ≤ o' 1 ∨ o' 1 + 768 ≤ o 1) :
    (View.whole cc0_scratch1).readCov (Val := Elt F) [⟨Rect.unit (s := S2048x3072) o ![2048, 768] h, v⟩, ⟨Rect.unit (s := S2048x3072) o' ![2048, 768] h', w⟩]
      (Rect.unit (s := S2048x3072) o' ![2048, 768] h').toLoadRect = w := by
  rw [View.readCov_cons_of_disjoint, View.readCov_cons_toLoadRect]
  rw [Finset.disjoint_left]
  intro x hx hx'
  have h1 := (Rect.mem_set_unit (s := S2048x3072) (inb := h)).mp hx (1 : Fin 2)
  have h2 := (Rect.mem_set_unit (s := S2048x3072) (inb := h')).mp hx' (1 : Fin 2)
  have e : (![2048, 768] : Fin 2 → ℕ) 1 = 768 := rfl
  rw [e] at h1 h2
  omega

theorem pay12_eq : @k0_pay12 F _ = k0_pay10 := rfl
theorem pay13_eq : @k0_pay13 F _ = k0_pay11 := rfl
theorem pay14_eq : @k0_pay14 F _ = k0_pay10 := rfl
theorem pay15_eq : @k0_pay15 F _ = k0_pay11 := rfl
theorem pay16_eq : @k0_pay16 F _ = k0_pay10 := rfl
theorem pay17_eq : @k0_pay17 F _ = k0_pay11 := rfl
theorem pay18_eq : @k0_pay18 F _ = k0_pay10 := rfl
theorem pay20_eq : @k0_pay20 F _ = k0_pay10 := rfl
theorem pay22_eq : @k0_pay22 F _ = k0_pay10 := rfl
theorem pay23_eq : @k0_pay23 F _ = k0_pay21 := rfl
theorem pay24_eq : @k0_pay24 F _ = k0_pay10 := rfl

section
variable (i : grid0.Coords)
  (arg1 : Memref sig .tc .vmem S2048x768 .f32) (harg1 : arg1.IsWhole) (arg3 : Memref sig .tc .vmem S1x3072 .f32) (harg3 : arg3.IsWhole)
  (arg5 : Memref sig .tc .vmem S1x768 .f32) (harg5 : arg5.IsWhole) (arg6 : Memref sig .tc .vmem S256x768 .f32) (harg6 : arg6.IsWhole)

/-- The body at its operands. -/
abbrev bodyR : Prog (TpuEff nD τ sig (Elt F) Λ₀ .tc) PUnit :=
  cc0__ffn_kernel i arg1 harg1 hbW1 (Memref.isWhole_whole _) arg3 harg3 hbW2 (Memref.isWhole_whole _) arg5 harg5 arg6 harg6
    scXb (Memref.isWhole_whole _) scH (Memref.isWhole_whole _) scY (Memref.isWhole_whole _) scW1 (Memref.isWhole_whole _) scW2 (Memref.isWhole_whole _)
    scW1b (Memref.isWhole_whole _) scW2b (Memref.isWhole_whole _) cc0_scratch7 cc0_scratch8

end

end Cert.KernelIdeal.Hand

end
-- ==== Proof.KernelRun.lean ====
module
public import proofs.«01_k».proof.Proof.KernelSetup
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

section
variable (c : Dev nD) (i : grid0.Coords)
  (arg1 : Memref sig .tc .vmem S2048x768 .f32) (harg1 : arg1.IsWhole) (arg3 : Memref sig .tc .vmem S1x3072 .f32) (harg3 : arg3.IsWhole)
  (arg5 : Memref sig .tc .vmem S1x768 .f32) (harg5 : arg5.IsWhole) (arg6 : Memref sig .tc .vmem S256x768 .f32) (harg6 : arg6.IsWhole)

/-- The first point: it starts the eight transfers, narrows the activations, waits for the first chunk of the first
weight matrix and computes the first chunk of the hidden layer. -/
theorem run0 (hi : (i 0).val = 0) (X1 : HB (F := F) c hbW1) (X2 : HB (F := F) c hbW2)
   (x0 : Vec F S2048x768 .f32) (bb : Fin 4 → Vec F S1x3072 .f32) (W : Waits sig Unit) (K : PUnit → sProp 𝕄) :
  iprop(free1 c 0 X1 ∗ free1 c 1 X1 ∗ free1 c 2 X1 ∗ free1 c 3 X1 ∗ free2 c 0 X2 ∗ free2 c 1 X2 ∗ free2 c 2 X2 ∗ free2 c 3 X2
    ∗ owns (c : Thread nD τ) arg1 fullShare x0 ∗ owns (c : Thread nD τ) arg3 fullShare (bb 0)
    ∗ stAny (F := F) c scXb ∗ stAny (F := F) c scH ∗ stAny (F := F) c scW1b ∗ owes (c : Thread nD τ) 0 W
    ∗ (iprop(free1 c 0 X1 ∗ fl1 c 1 X1 ∗ fl1 c 2 X1 ∗ fl1 c 3 X1 ∗ fl2 c 0 X2 ∗ fl2 c 1 X2 ∗ fl2 c 2 X2 ∗ fl2 c 3 X2
        ∗ owns (c : Thread nD τ) arg1 fullShare x0 ∗ owns (c : Thread nD τ) arg3 fullShare (bb 0)
        ∗ stP c scXb rAll (vXB x0) ∗ stP c scH (rH 0) (vH c X1 x0 bb 0) ∗ stAny (F := F) c scW1b
        ∗ (∃ W', owes (c : Thread nD τ) 0 W')) -∗ K ⟨⟩))
  ⊢ wp frame (wpE (defs₀ (F := F)) Variants.none c none) Set.univ (bodyR i arg1 harg1 arg3 harg3 arg5 harg5 arg6 harg6) K := by
  have hy : cnd 0#32 i := cnd_yes hi rfl
  have hn := fun k (h : BitVec.ofNat 32 0 ≠ k) => cnd_no hi h
  unfold bodyR
  simp only [cc0__ffn_kernel_eq_skeleton]; unfold cc0__ffn_kernel_skel
  simp only [k0_part2_eq_skeleton]; unfold k0_part2_skel
  simp only [k0_part1_eq_skeleton]; unfold k0_part1_skel
  unfold owns
  iintro ⟨⟨S10, ⟨%d10, D10⟩, C10⟩, ⟨S11, ⟨%d11, D11⟩, C11⟩, ⟨S12, ⟨%d12, D12⟩, C12⟩, ⟨S13, ⟨%d13, D13⟩, C13⟩,
    ⟨S20, ⟨%d20, D20⟩, C20⟩, ⟨S21, ⟨%d21, D21⟩, C21⟩, ⟨S22, ⟨%d22, D22⟩, C22⟩, ⟨S23, ⟨%d23, D23⟩, C23⟩,
    ⟨%fx, %hx, Hx⟩, ⟨%fb, %hb, Hb⟩, ⟨%fxb, Hxb⟩, ⟨%fh, Hh⟩, ⟨%fw, Hw⟩, HO, Hk⟩
  sl_exec (disch := first | sl_exact hy | sl_exact (hn 0#32 (by decide)) | sl_exact (hn 1#32 (by decide)) | sl_exact (hn 2#32 (by decide)) | sl_exact (hn 3#32 (by decide)) | sl_exact (hn 4#32 (by decide)) | sl_exact (hn 5#32 (by decide)) | sl_exact (hn 6#32 (by decide)) | sl_exact (hn 7#32 (by decide)) | sl_exact (hn 8#32 (by decide)) | sl_exact (hn 9#32 (by decide)) | sl_exact (hn 10#32 (by decide)) | sl_exact (hn 11#32 (by decide)) )
  sl_step
  sl_unfold_run_names
  have e1 : ∀ r : Rect S2048x768, View.readAt (Elt F) arg1.view r.toLoadRect fx = View.ld x0 r := fun r => by rw [← hx]; rfl
  have e3 : ∀ r : Rect S1x3072, View.readAt (Elt F) arg3.view r.toLoadRect fb = View.ld (bb 0) r := fun r => by rw [← hb]; rfl
  simp only [View.readCov_cons_toLoadRect, colOff, rowOff, e1, e3]
  rw [landed1]
  iapply Hk
  isplitl [S10 D10 C10]
  · isplitl [S10]; · iexact S10
    isplitl [D10]; · iexists _; iexact D10
    iexact C10
  isplitl [C11]; · iexists _; iexact C11
  isplitl [C12]; · iexists _; iexact C12
  isplitl [C13]; · iexists _; iexact C13
  isplitl [C20]; · iexists _; iexact C20
  isplitl [C21]; · iexists _; iexact C21
  isplitl [C22]; · iexists _; iexact C22
  isplitl [C23]; · iexists _; iexact C23
  isplitl [Hx]; · iapply (owns_back c hx); iexact Hx
  isplitl [Hb]; · iapply (owns_back c hb); iexact Hb
  isplitl [Hxb]; · iexists fxb; iexact Hxb
  isplitl [Hh]; · iexists fh; unfold vH vXB vW1B w1pay; iexact Hh
  isplitl [Hw]; · iexists _; iexact Hw
  iexists _; iexact HO
end
end Cert.KernelIdeal.Hand

end
-- ==== Proof.KernelRunMid.lean ====
module
public import proofs.«01_k».proof.Proof.KernelSetup
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

section
variable (c : Dev nD) (i : grid0.Coords)
  (arg1 : Memref sig .tc .vmem S2048x768 .f32) (harg1 : arg1.IsWhole) (arg3 : Memref sig .tc .vmem S1x3072 .f32) (harg3 : arg3.IsWhole)
  (arg5 : Memref sig .tc .vmem S1x768 .f32) (harg5 : arg5.IsWhole) (arg6 : Memref sig .tc .vmem S256x768 .f32) (harg6 : arg6.IsWhole)

/-- The accumulator's state after `j` chunks. -/
abbrev stY (X1 : HB (F := F) c hbW1) (X2 : HB (F := F) c hbW2) (x0 : Vec F S2048x768 .f32) (bb : Fin 4 → Vec F S1x3072 .f32) (b2 : Vec F S1x768 .f32)
    (j : Fin 4) : sProp 𝕄 :=
  match j with
  | 0 => stAny (F := F) c scY
  | 1 => stP c scY rAll (vY0 c X1 X2 x0 bb b2)
  | 2 => stP c scY rAll (vY1 c X1 X2 x0 bb b2)
  | 3 => stP c scY rAll (vY2 c X1 X2 x0 bb b2)

/-- The points 1 to 3: each waits for a chunk of the first weight matrix and the preceding chunk of the second, computes
a chunk of the hidden layer and adds the preceding one's product into the accumulator. -/
theorem runMid {j j' : Fin 4} (hj : (j = 1 ∧ j' = 0) ∨ (j = 2 ∧ j' = 1) ∨ (j = 3 ∧ j' = 2)) (hi : (i 0).val = j.val)
   (X1 : HB (F := F) c hbW1) (X2 : HB (F := F) c hbW2)
   (x0 : Vec F S2048x768 .f32) (bb : Fin 4 → Vec F S1x3072 .f32) (b2 : Vec F S1x768 .f32) (W : Waits sig Unit) (K : PUnit → sProp 𝕄) :
  iprop(fl1 c j X1 ∗ fl2 c j' X2
    ∗ owns (c : Thread nD τ) arg3 fullShare (bb j) ∗ owns (c : Thread nD τ) arg5 fullShare b2
    ∗ stP c scXb rAll (vXB x0) ∗ stP c scH (rH j') (vH c X1 x0 bb j') ∗ stY c X1 X2 x0 bb b2 j'
    ∗ stAny (F := F) c scW1b ∗ stAny (F := F) c scW2b ∗ owes (c : Thread nD τ) 0 W
    ∗ (iprop(free1 c j X1 ∗ free2 c j' X2
        ∗ owns (c : Thread nD τ) arg3 fullShare (bb j) ∗ owns (c : Thread nD τ) arg5 fullShare b2
        ∗ stP c scXb rAll (vXB x0) ∗ stP c scH (rH j) (vH c X1 x0 bb j) ∗ stY c X1 X2 x0 bb b2 j
        ∗ stAny (F := F) c scW1b ∗ stAny (F := F) c scW2b
        ∗ (∃ W', owes (c : Thread nD τ) 0 W')) -∗ K ⟨⟩))
  ⊢ wp frame (wpE (defs₀ (F := F)) Variants.none c none) Set.univ (bodyR i arg1 harg1 arg3 harg3 arg5 harg5 arg6 harg6) K := by
  unfold bodyR
  simp only [cc0__ffn_kernel_eq_skeleton]; unfold cc0__ffn_kernel_skel
  simp only [k0_part2_eq_skeleton]; unfold k0_part2_skel
  simp only [k0_part1_eq_skeleton]; unfold k0_part1_skel
  unfold owns
  have hn := fun k (h : BitVec.ofNat 32 j.val ≠ k) => cnd_no hi h
  rcases hj with ⟨rfl, rfl⟩ | ⟨rfl, rfl⟩ | ⟨rfl, rfl⟩
  all_goals
    iintro ⟨⟨%d1, C1⟩, ⟨%d2, C2⟩, ⟨%fb, %hb, Hb⟩, ⟨%fb2, %hb2, Hb2⟩, ⟨%fxb, Hxb⟩, ⟨%fh, Hh⟩, ⟨%fy, Hy⟩, ⟨%fw, Hw⟩, ⟨%fw2, Hw2⟩, HO, Hk⟩
    sl_exec (disch := first | sl_exact (cnd_yes hi (rfl : _ = 0#32)) | sl_exact (hn 0#32 (by decide)) | sl_exact (cnd_yes hi (rfl : _ = 1#32)) | sl_exact (hn 1#32 (by decide)) | sl_exact (cnd_yes hi (rfl : _ = 2#32)) | sl_exact (hn 2#32 (by decide)) | sl_exact (cnd_yes hi (rfl : _ = 3#32)) | sl_exact (hn 3#32 (by decide)) | sl_exact (cnd_yes hi (rfl : _ = 4#32)) | sl_exact (hn 4#32 (by decide)) | sl_exact (cnd_yes hi (rfl : _ = 5#32)) | sl_exact (hn 5#32 (by decide)) | sl_exact (cnd_yes hi (rfl : _ = 6#32)) | sl_exact (hn 6#32 (by decide)) | sl_exact (cnd_yes hi (rfl : _ = 7#32)) | sl_exact (hn 7#32 (by decide)) | sl_exact (cnd_yes hi (rfl : _ = 8#32)) | sl_exact (hn 8#32 (by decide)) | sl_exact (cnd_yes hi (rfl : _ = 9#32)) | sl_exact (hn 9#32 (by decide)) | sl_exact (cnd_yes hi (rfl : _ = 10#32)) | sl_exact (hn 10#32 (by decide)) | sl_exact (cnd_yes hi (rfl : _ = 11#32)) | sl_exact (hn 11#32 (by decide)))
    sl_step
    sl_unfold_run_names
    have e3 : ∀ r : Rect S1x3072, View.readAt (Elt F) arg3.view r.toLoadRect fb = View.ld (bb _) r := fun r => by rw [← hb]; rfl
    have e5 : ∀ r : Rect S1x768, View.readAt (Elt F) arg5.view r.toLoadRect fb2 = View.ld b2 r := fun r => by rw [← hb2]; rfl
    simp only [View.readCov_cons_toLoadRect, rAll, rH, rW2, colOff, rowOff, e3, e5]
    rw [landed1, landed2, otherChunk]
    rotate_left
    · decide
    simp only [pay12_eq, pay13_eq, pay14_eq, pay15_eq, pay16_eq, pay17_eq, pay18_eq, pay20_eq, pay22_eq, pay23_eq]
    iapply Hk
    isplitl [C1 C1_src C1_dst]
    · isplitl [C1_src]; · iexact C1_src
      isplitl [C1_dst]; · iexists _; iexact C1_dst
      iexact C1
    isplitl [C2 C2_src C2_dst]
    · isplitl [C2_src]; · iexact C2_src
      isplitl [C2_dst]; · iexists _; iexact C2_dst
      iexact C2
    isplitl [Hb]; · iapply (owns_back c hb); iexact Hb
    isplitl [Hb2]; · iapply (owns_back c hb2); iexact Hb2
    isplitl [Hxb]; · iexists fxb; iexact Hxb
    isplitl [Hh]; · iapply (absorb c (M := scH)); unfold vH vW1B; iexact Hh
    isplitl [Hy]
    · iapply (absorb c (M := scY))
      first | unfold vY2 | unfold vY1 | unfold vY0
      unfold vW2B; iexact Hy
    isplitl [Hw]; · iexists _; iexact Hw
    isplitl [Hw2]; · iexists _; iexact Hw2
    iexists _; iexact HO

end
end Cert.KernelIdeal.Hand

end
-- ==== Proof.KernelRunTail.lean ====
module
public import proofs.«01_k».proof.Proof.KernelSetup
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

section
variable (c : Dev nD) (i : grid0.Coords)
  (arg1 : Memref sig .tc .vmem S2048x768 .f32) (harg1 : arg1.IsWhole) (arg3 : Memref sig .tc .vmem S1x3072 .f32) (harg3 : arg3.IsWhole)
  (arg5 : Memref sig .tc .vmem S1x768 .f32) (harg5 : arg5.IsWhole) (arg6 : Memref sig .tc .vmem S256x768 .f32) (harg6 : arg6.IsWhole)

/-- Point 4: it waits for the last chunk of the second weight matrix, narrows it, and stores the first tile of the
result. -/
theorem run4 (hi : (i 0).val = 4) (X1 : HB (F := F) c hbW1) (X2 : HB (F := F) c hbW2)
   (x0 : Vec F S2048x768 .f32) (bb : Fin 4 → Vec F S1x3072 .f32) (b2 : Vec F S1x768 .f32) (o : Vec F S256x768 .f32) (W : Waits sig Unit) (K : PUnit → sProp 𝕄) :
  iprop(fl2 c 3 X2 ∗ owns (c : Thread nD τ) arg6 fullShare o
    ∗ stP c scH (rH 3) (vH c X1 x0 bb 3) ∗ stP c scY rAll (vY2 c X1 X2 x0 bb b2)
    ∗ stAny (F := F) c scW2b ∗ owes (c : Thread nD τ) 0 W
    ∗ (iprop(free2 c 3 X2 ∗ owns (c : Thread nD τ) arg6 fullShare (vOut c X1 X2 x0 bb b2 0)
        ∗ stP c scH (rH 3) (vH c X1 x0 bb 3) ∗ stP c scY rAll (vY2 c X1 X2 x0 bb b2)
        ∗ stP c scW2b (rW2 3) (vW2B c X2 3)
        ∗ (∃ W', owes (c : Thread nD τ) 0 W')) -∗ K ⟨⟩))
  ⊢ wp frame (wpE (defs₀ (F := F)) Variants.none c none) Set.univ (bodyR i arg1 harg1 arg3 harg3 arg5 harg5 arg6 harg6) K := by
  unfold bodyR
  simp only [cc0__ffn_kernel_eq_skeleton]; unfold cc0__ffn_kernel_skel
  simp only [k0_part2_eq_skeleton]; unfold k0_part2_skel
  simp only [k0_part1_eq_skeleton]; unfold k0_part1_skel
  unfold owns
  have hn := fun k (h : BitVec.ofNat 32 4 ≠ k) => cnd_no hi h
  iintro ⟨⟨%d2, C2⟩, ⟨%fo, %ho, Ho⟩, ⟨%fh, Hh⟩, ⟨%fy, Hy⟩, ⟨%fw2, Hw2⟩, HO, Hk⟩
  sl_exec (disch := first | sl_exact (cnd_yes hi (rfl : _ = 0#32)) | sl_exact (hn 0#32 (by decide)) | sl_exact (cnd_yes hi (rfl : _ = 1#32)) | sl_exact (hn 1#32 (by decide)) | sl_exact (cnd_yes hi (rfl : _ = 2#32)) | sl_exact (hn 2#32 (by decide)) | sl_exact (cnd_yes hi (rfl : _ = 3#32)) | sl_exact (hn 3#32 (by decide)) | sl_exact (cnd_yes hi (rfl : _ = 4#32)) | sl_exact (hn 4#32 (by decide)) | sl_exact (cnd_yes hi (rfl : _ = 5#32)) | sl_exact (hn 5#32 (by decide)) | sl_exact (cnd_yes hi (rfl : _ = 6#32)) | sl_exact (hn 6#32 (by decide)) | sl_exact (cnd_yes hi (rfl : _ = 7#32)) | sl_exact (hn 7#32 (by decide)) | sl_exact (cnd_yes hi (rfl : _ = 8#32)) | sl_exact (hn 8#32 (by decide)) | sl_exact (cnd_yes hi (rfl : _ = 9#32)) | sl_exact (hn 9#32 (by decide)) | sl_exact (cnd_yes hi (rfl : _ = 10#32)) | sl_exact (hn 10#32 (by decide)) | sl_exact (cnd_yes hi (rfl : _ = 11#32)) | sl_exact (hn 11#32 (by decide)))
  sl_step
  sl_unfold_run_names
  simp only [View.readCov_cons_toLoadRect, rW2, colOff, rowOff]
  rw [landed2]
  simp only [pay24_eq]
  iapply Hk
  isplitl [C2 C2_src C2_dst]
  · isplitl [C2_src]; · iexact C2_src
    isplitl [C2_dst]; · iexists _; iexact C2_dst
    iexact C2
  isplitl [Ho]
  · iapply (owns_back c (M := arg6) ?_)
    rotate_left
    · iexact Ho
    rw [View.readCov_eq_canon', View.readCov_eq_canon']
    exact View.read_writes_full arg6.view fo (off := ![0, 0]) inb_S256x768_S256x768_0_0 _ []
  isplitl [Hh]; · iexists fh; iexact Hh
  isplitl [Hy]; · iexists fy; iexact Hy
  isplitl [Hw2]; · iexists fw2; iexact Hw2
  iexists _; iexact HO

/-- A point of the tail: it stores a tile of the result. -/
theorem runTail {t : Fin 8} (ht : t ≠ 0) (hi : (i 0).val = 4 + t.val)
   (X1 : HB (F := F) c hbW1) (X2 : HB (F := F) c hbW2)
   (x0 : Vec F S2048x768 .f32) (bb : Fin 4 → Vec F S1x3072 .f32) (b2 : Vec F S1x768 .f32) (o : Vec F S256x768 .f32) (W : Waits sig Unit) (K : PUnit → sProp 𝕄) :
  iprop(owns (c : Thread nD τ) arg6 fullShare o
    ∗ stP c scH (rH 3) (vH c X1 x0 bb 3) ∗ stP c scY rAll (vY2 c X1 X2 x0 bb b2)
    ∗ stP c scW2b (rW2 3) (vW2B c X2 3) ∗ owes (c : Thread nD τ) 0 W
    ∗ (iprop(owns (c : Thread nD τ) arg6 fullShare (vOut c X1 X2 x0 bb b2 t)
        ∗ stP c scH (rH 3) (vH c X1 x0 bb 3) ∗ stP c scY rAll (vY2 c X1 X2 x0 bb b2)
        ∗ stP c scW2b (rW2 3) (vW2B c X2 3)
        ∗ (∃ W', owes (c : Thread nD τ) 0 W')) -∗ K ⟨⟩))
  ⊢ wp frame (wpE (defs₀ (F := F)) Variants.none c none) Set.univ (bodyR i arg1 harg1 arg3 harg3 arg5 harg5 arg6 harg6) K := by
  unfold bodyR
  simp only [cc0__ffn_kernel_eq_skeleton]; unfold cc0__ffn_kernel_skel
  simp only [k0_part2_eq_skeleton]; unfold k0_part2_skel
  simp only [k0_part1_eq_skeleton]; unfold k0_part1_skel
  unfold owns
  have hn := fun k (h : BitVec.ofNat 32 (4 + t.val) ≠ k) => cnd_no hi h
  have hc : t = 1 ∨ t = 2 ∨ t = 3 ∨ t = 4 ∨ t = 5 ∨ t = 6 ∨ t = 7 := by
    clear hn hi; revert t; decide
  rcases hc with rfl | rfl | rfl | rfl | rfl | rfl | rfl
  all_goals
    iintro ⟨⟨%fo, %ho, Ho⟩, ⟨%fh, Hh⟩, ⟨%fy, Hy⟩, ⟨%fw2, Hw2⟩, HO, Hk⟩
    sl_exec (disch := first | sl_exact (cnd_yes hi (rfl : _ = 0#32)) | sl_exact (hn 0#32 (by decide)) | sl_exact (cnd_yes hi (rfl : _ = 1#32)) | sl_exact (hn 1#32 (by decide)) | sl_exact (cnd_yes hi (rfl : _ = 2#32)) | sl_exact (hn 2#32 (by decide)) | sl_exact (cnd_yes hi (rfl : _ = 3#32)) | sl_exact (hn 3#32 (by decide)) | sl_exact (cnd_yes hi (rfl : _ = 4#32)) | sl_exact (hn 4#32 (by decide)) | sl_exact (cnd_yes hi (rfl : _ = 5#32)) | sl_exact (hn 5#32 (by decide)) | sl_exact (cnd_yes hi (rfl : _ = 6#32)) | sl_exact (hn 6#32 (by decide)) | sl_exact (cnd_yes hi (rfl : _ = 7#32)) | sl_exact (hn 7#32 (by decide)) | sl_exact (cnd_yes hi (rfl : _ = 8#32)) | sl_exact (hn 8#32 (by decide)) | sl_exact (cnd_yes hi (rfl : _ = 9#32)) | sl_exact (hn 9#32 (by decide)) | sl_exact (cnd_yes hi (rfl : _ = 10#32)) | sl_exact (hn 10#32 (by decide)) | sl_exact (cnd_yes hi (rfl : _ = 11#32)) | sl_exact (hn 11#32 (by decide)))
    sl_step
    sl_unfold_run_names
    simp only [View.readCov_cons_toLoadRect]
    iapply Hk
    isplitl [Ho]
    · iapply (owns_back c (M := arg6) ?_)
      rotate_left
      · iexact Ho
      rw [View.readCov_eq_canon', View.readCov_eq_canon']
      exact View.read_writes_full arg6.view fo (off := ![0, 0]) inb_S256x768_S256x768_0_0 _ []
    isplitl [Hh]; · iexists fh; iexact Hh
    isplitl [Hy]; · iexists fy; iexact Hy
    isplitl [Hw2]; · iexists fw2; iexact Hw2
    iexists _; iexact HO

end
end Cert.KernelIdeal.Hand

end
-- ==== Proof.KernelChunks.lean ====
module
public import proofs.«01_k».proof.Proof.KernelRun
public import proofs.«01_k».proof.Proof.KernelRunMid
public import proofs.«01_k».proof.Proof.KernelRunTail
public import Idealize.ShloMosaic.Lib.ViewIndex
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## A weight matrix and its fetched copy, chunk by chunk -/

section Split
variable (c : Dev nD)

/-- The chunks of columns of a whole array are disjoint and cover it; so are the chunks of rows. -/
theorem col_disjoint (j j' : Fin 4) (h : j ≠ j') : Disjoint (Rect.unit (s := S768x3072) (colOff j) S768x768.size (colInb j)).set
    (Rect.unit (s := S768x3072) (colOff j') S768x768.size (colInb j')).set :=
  Ring.lead_disjoint (s := S768x3072) (1 : Fin 2) 768 colOff S768x768.size colInb (by decide) rfl j j' h
theorem col_cover : Finset.univ.biUnion (fun j => (Rect.unit (s := S768x3072) (colOff j) S768x768.size (colInb j)).set) = Finset.univ :=
  Ring.lead_cover (s := S768x3072) (1 : Fin 2) 768 colOff S768x768.size colInb (by decide) (by decide) rfl (by decide) rfl
theorem row_disjoint (j j' : Fin 4) (h : j ≠ j') : Disjoint (Rect.unit (s := S3072x768) (rowOff j) S768x768.size (rowInb j)).set
    (Rect.unit (s := S3072x768) (rowOff j') S768x768.size (rowInb j')).set :=
  Ring.lead_disjoint (s := S3072x768) (0 : Fin 2) 768 rowOff S768x768.size rowInb (by decide) rfl j j' h
theorem row_cover : Finset.univ.biUnion (fun j => (Rect.unit (s := S3072x768) (rowOff j) S768x768.size (rowInb j)).set) = Finset.univ :=
  Ring.lead_cover (s := S3072x768) (0 : Fin 2) 768 rowOff S768x768.size rowInb (by decide) (by decide) rfl (by decide) rfl

/-- The elements of a slice of a whole buffer are the rectangle's. -/
theorem set_whole_slice (b : Ref sig .tc) (r : Rect b.ty.shape) : ((View.whole b).slice r).set = r.set := by
  rw [View.set_slice, View.emb_whole]; exact Finset.map_refl

theorem bigSep4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-- A buffer held whole is four disjoint parts that cover it, and four such parts at contents of their own join. -/
theorem split4 {ℓ : Loc nD τ sig} (I : Fin 4 → Finset (Idx ℓ)) (hd : ∀ j j', j ≠ j' → Disjoint (I j) (I j')) (hc : Finset.univ.biUnion I = Finset.univ)
    (f : Buf (Elt F) ℓ) : (ℓ ↦{fullShare} f : sProp 𝕄)
      = iprop((ℓ ↦[I 0]{fullShare} f) ∗ (ℓ ↦[I 1]{fullShare} f) ∗ (ℓ ↦[I 2]{fullShare} f) ∗ (ℓ ↦[I 3]{fullShare} f)) := by
  rw [Ring.pointsTo_blocks I hd hc f, bigSep4]
theorem join4 {ℓ : Loc nD τ sig} (I : Fin 4 → Finset (Idx ℓ)) (hd : ∀ j j', j ≠ j' → Disjoint (I j) (I j')) (hc : Finset.univ.biUnion I = Finset.univ) :
    (iprop((∃ f, ℓ ↦[I 0]{fullShare} f) ∗ (∃ f, ℓ ↦[I 1]{fullShare} f) ∗ (∃ f, ℓ ↦[I 2]{fullShare} f) ∗ (∃ f, ℓ ↦[I 3]{fullShare} f)) : sProp 𝕄)
      ⊢ iprop(∃ f : Buf (Elt F) ℓ, ℓ ↦{fullShare} f) := by
  have h := Ring.pointsTo_blocks_join_exists (τ := τ) (Val := Elt F) (Ix := Unit) (Name := ℕ) (U := Pipeline.UD sig nD τ) (Lvl := ℕ) I hd hc (q := fullShare) (Classical.arbitrary _)
  rw [bigSep4] at h
  exact h

/-- The chunks of the weight matrices and of their fetched copies, as parts of the whole buffers. -/
theorem hbCol_disjoint (j j' : Fin 4) (h : j ≠ j') :
    Disjoint (colCh hbW1 (colOff j) (colInb j)).view.set (colCh hbW1 (colOff j') (colInb j')).view.set :=
  View.disjoint_slice (v := View.whole main_arg3) (col_disjoint j j' h)
theorem scCol_disjoint (j j' : Fin 4) (h : j ≠ j') :
    Disjoint (colCh scW1 (colOff j) (colInb j)).view.set (colCh scW1 (colOff j') (colInb j')).view.set :=
  View.disjoint_slice (v := View.whole cc0_scratch3) (col_disjoint j j' h)
theorem hbRow_disjoint (j j' : Fin 4) (h : j ≠ j') :
    Disjoint (rowCh hbW2 (rowOff j) (rowInb j)).view.set (rowCh hbW2 (rowOff j') (rowInb j')).view.set :=
  View.disjoint_slice (v := View.whole main_arg5) (row_disjoint j j' h)
theorem scRow_disjoint (j j' : Fin 4) (h : j ≠ j') :
    Disjoint (rowCh scW2 (rowOff j) (rowInb j)).view.set (rowCh scW2 (rowOff j') (rowInb j')).view.set :=
  View.disjoint_slice (v := View.whole cc0_scratch4) (row_disjoint j j' h)
theorem hbCol_cover : Finset.univ.biUnion (β := S768x3072.Idx) (fun j : Fin 4 => ((colCh hbW1 (colOff j) (colInb j)).view.set : Finset S768x3072.Idx)) = Finset.univ :=
  (Finset.biUnion_congr rfl fun j _ => set_whole_slice main_arg3 _).trans col_cover
theorem scCol_cover : Finset.univ.biUnion (β := S768x3072.Idx) (fun j : Fin 4 => ((colCh scW1 (colOff j) (colInb j)).view.set : Finset S768x3072.Idx)) = Finset.univ :=
  (Finset.biUnion_congr rfl fun j _ => set_whole_slice cc0_scratch3 _).trans col_cover
theorem hbRow_cover : Finset.univ.biUnion (β := S3072x768.Idx) (fun j : Fin 4 => ((rowCh hbW2 (rowOff j) (rowInb j)).view.set : Finset S3072x768.Idx)) = Finset.univ :=
  (Finset.biUnion_congr rfl fun j _ => set_whole_slice main_arg5 _).trans row_cover
theorem scRow_cover : Finset.univ.biUnion (β := S3072x768.Idx) (fun j : Fin 4 => ((rowCh scW2 (rowOff j) (rowInb j)).view.set : Finset S3072x768.Idx)) = Finset.univ :=
  (Finset.biUnion_congr rfl fun j _ => set_whole_slice cc0_scratch4 _).trans row_cover

theorem splitW1 (f : HB (F := F) c hbW1) : ((c : Thread nD τ).loc main_arg3 ↦{fullShare} f : sProp 𝕄)
    = iprop(src1 c 0 f ∗ src1 c 1 f ∗ src1 c 2 f ∗ src1 c 3 f) :=
  split4 (ℓ := (c : Thread nD τ).loc main_arg3) (fun j => (colCh hbW1 (colOff j) (colInb j)).view.set) hbCol_disjoint hbCol_cover f
theorem splitW2 (f : HB (F := F) c hbW2) : ((c : Thread nD τ).loc main_arg5 ↦{fullShare} f : sProp 𝕄)
    = iprop(src2 c 0 f ∗ src2 c 1 f ∗ src2 c 2 f ∗ src2 c 3 f) :=
  split4 (ℓ := (c : Thread nD τ).loc main_arg5) (fun j => (rowCh hbW2 (rowOff j) (rowInb j)).view.set) hbRow_disjoint hbRow_cover f
theorem splitS1 : (iprop(∃ f : HB (F := F) c scW1, (c : Thread nD τ).loc cc0_scratch3 ↦{fullShare} f) : sProp 𝕄)
    ⊢ iprop(dst1 (F := F) c 0 ∗ dst1 (F := F) c 1 ∗ dst1 (F := F) c 2 ∗ dst1 (F := F) c 3) := by
  iintro ⟨%f, H⟩
  ihave H := (Entails.of_eq (split4 (ℓ := (c : Thread nD τ).loc cc0_scratch3) (fun j => (colCh scW1 (colOff j) (colInb j)).view.set) scCol_disjoint scCol_cover f)) $$ H
  icases H with ⟨H0, H1, H2, H3⟩
  isplitl [H0]; · iexists f; iexact H0
  isplitl [H1]; · iexists f; iexact H1
  isplitl [H2]; · iexists f; iexact H2
  iexists f; iexact H3
theorem splitS2 : (iprop(∃ f : HB (F := F) c scW2, (c : Thread nD τ).loc cc0_scratch4 ↦{fullShare} f) : sProp 𝕄)
    ⊢ iprop(dst2 (F := F) c 0 ∗ dst2 (F := F) c 1 ∗ dst2 (F := F) c 2 ∗ dst2 (F := F) c 3) := by
  iintro ⟨%f, H⟩
  ihave H := (Entails.of_eq (split4 (ℓ := (c : Thread nD τ).loc cc0_scratch4) (fun j => (rowCh scW2 (rowOff j) (rowInb j)).view.set) scRow_disjoint scRow_cover f)) $$ H
  icases H with ⟨H0, H1, H2, H3⟩
  isplitl [H0]; · iexists f; iexact H0
  isplitl [H1]; · iexists f; iexact H1
  isplitl [H2]; · iexists f; iexact H2
  iexists f; iexact H3
theorem joinS1 : (iprop(dst1 (F := F) c 0 ∗ dst1 (F := F) c 1 ∗ dst1 (F := F) c 2 ∗ dst1 (F := F) c 3) : sProp 𝕄)
    ⊢ iprop(∃ f : HB (F := F) c scW1, (c : Thread nD τ).loc cc0_scratch3 ↦{fullShare} f) :=
  join4 (ℓ := (c : Thread nD τ).loc cc0_scratch3) (fun j => (colCh scW1 (colOff j) (colInb j)).view.set) scCol_disjoint scCol_cover
theorem joinS2 : (iprop(dst2 (F := F) c 0 ∗ dst2 (F := F) c 1 ∗ dst2 (F := F) c 2 ∗ dst2 (F := F) c 3) : sProp 𝕄)
    ⊢ iprop(∃ f : HB (F := F) c scW2, (c : Thread nD τ).loc cc0_scratch4 ↦{fullShare} f) :=
  join4 (ℓ := (c : Thread nD τ).loc cc0_scratch4) (fun j => (rowCh scW2 (rowOff j) (rowInb j)).view.set) scRow_disjoint scRow_cover
/-- A whole scratch buffer, held at anything. -/
theorem any_eq (b : Ref sig .tc) : (iprop(∃ f : Buf (Elt F) ((c : Thread nD τ).loc b), (c : Thread nD τ).loc b ↦{fullShare} f) : sProp 𝕄)
    = stAny (F := F) c (Memref.whole b) := by
  unfold stAny pt
  rw [show (Memref.whole b : Memref sig .tc _ _ _).view.set = Finset.univ from View.set_whole b]

/-! ## The body's own cells, and what the launch hands it -/

/-- The transfer cells. -/
abbrev osem0 : Fin 8 → SemLoc sig := ![SemLoc.dma 5, SemLoc.dma 6, SemLoc.dma 7, SemLoc.dma 8, SemLoc.dma 9, SemLoc.dma 10, SemLoc.dma 11, SemLoc.dma 12]
theorem ownSemFacts0 : Pipeline.OwnSemFacts spec0 osem0 := by decide
theorem ownSems00_eq : (Pipeline.ownSems0 (Ix := Unit) (Name := ℕ) (U := Pipeline.UD sig nD τ) (Lvl := ℕ) (Val := Elt F) (τ := τ) osem0 c : sProp 𝕄)
      = iprop(cell1 (F := F) c 0 ∗ cell1 (F := F) c 1 ∗ cell1 (F := F) c 2 ∗ cell1 (F := F) c 3 ∗ cell2 (F := F) c 0 ∗ cell2 (F := F) c 1 ∗ cell2 (F := F) c 2 ∗ cell2 (F := F) c 3) := by
  rw [Pipeline.ownSems0_eq_of_list c osem0 [0, 1, 2, 3, 4, 5, 6, 7] (by decide) (by decide)]; rfl
/-- The weight matrices, which the body's transfers read. -/
def H0 : Finset (Ref sig .tc) := {main_arg3, main_arg5}
theorem H0_sub : H0 ⊆ Pipeline.restRefs sig spec0 := by decide
theorem hbmPts0_eq : (bigSep H0 (fun b => ((c : Thread nD τ).loc b) ↦{fullShare} V m c b) : sProp 𝕄)
      = iprop(((c : Thread nD τ).loc main_arg3 ↦{fullShare} V m c main_arg3) ∗ ((c : Thread nD τ).loc main_arg5 ↦{fullShare} V m c main_arg5)) := by
  rw [BI.bigSep_eq_bigSepL_of_eq [main_arg3, main_arg5] (by decide) (by decide)]; rfl

/-- What the body holds when nothing is in flight and nothing is known of its buffers. -/
def stFree : sProp 𝕄 :=
  iprop(free1 c 0 (V m c main_arg3) ∗ free1 c 1 (V m c main_arg3) ∗ free1 c 2 (V m c main_arg3) ∗ free1 c 3 (V m c main_arg3)
    ∗ free2 c 0 (V m c main_arg5) ∗ free2 c 1 (V m c main_arg5) ∗ free2 c 2 (V m c main_arg5) ∗ free2 c 3 (V m c main_arg5)
    ∗ stAny (F := F) c scXb ∗ stAny (F := F) c scH ∗ stAny (F := F) c scY ∗ stAny (F := F) c scW1b ∗ stAny (F := F) c scW2b ∗ (∃ r, prngReg c r))

/-- The launch's hand-over is that, both ways. -/
theorem launch_free : (Pipeline.ΦD osem0 spec0 H0 (V m) c : sProp 𝕄) ⊢ stFree m c := by
  rw [Pipeline.ΦD_eq, scopedRest0_eq, ownSems00_eq, hbmPts0_eq, splitW1, splitW2, any_eq c cc0_scratch0, any_eq c cc0_scratch1,
    any_eq c cc0_scratch2, any_eq c cc0_scratch5, any_eq c cc0_scratch6]
  unfold stFree
  iintro ⟨⟨Hxb, Hh, Hy, H1, H2, Hw1, Hw2⟩, Hg, ⟨C10, C11, C12, C13, C20, C21, C22, C23⟩, ⟨S10, S11, S12, S13⟩, ⟨S20, S21, S22, S23⟩⟩
  ihave H1 := splitS1 c $$ H1
  ihave H2 := splitS2 c $$ H2
  icases H1 with ⟨D10, D11, D12, D13⟩
  icases H2 with ⟨D20, D21, D22, D23⟩
  unfold free1 free2
  iframe
theorem free_launch : stFree m c ⊢ (Pipeline.ΦD osem0 spec0 H0 (V m) c : sProp 𝕄) := by
  rw [Pipeline.ΦD_eq, scopedRest0_eq, ownSems00_eq, hbmPts0_eq, splitW1, splitW2, any_eq c cc0_scratch0, any_eq c cc0_scratch1,
    any_eq c cc0_scratch2, any_eq c cc0_scratch5, any_eq c cc0_scratch6]
  unfold stFree
  iintro ⟨⟨S10, D10, C10⟩, ⟨S11, D11, C11⟩, ⟨S12, D12, C12⟩, ⟨S13, D13, C13⟩, ⟨S20, D20, C20⟩, ⟨S21, D21, C21⟩, ⟨S22, D22, C22⟩, ⟨S23, D23, C23⟩, Hxb, Hh, Hy, Hw1, Hw2, Hg⟩
  ihave H1 := joinS1 c $$ [D10 D11 D12 D13]
  · iframe
  ihave H2 := joinS2 c $$ [D20 D21 D22 D23]
  · iframe
  iframe
end Split
end Cert.KernelIdeal.Hand

end
-- ==== Proof.KernelState.lean ====
module
public import proofs.«01_k».proof.Proof.KernelChunks
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The contents between the points, and the invariant -/

section State
variable (c : Dev nD)

/-- The weight matrices, the activations, the first bias (read whole at four points) and the second. -/
abbrev X1 : HB (F := F) c hbW1 := V m c main_arg3
abbrev X2 : HB (F := F) c hbW2 := V m c main_arg5
abbrev gX : Vec F S2048x768 .f32 := iblk m c 0 t0_0
abbrev gB (j : Fin 4) : Vec F S1x3072 .f32 := iblk m c 1 t0_0
abbrev gB2 : Vec F S1x768 .f32 := iblk m c 2 t0_0
/-- A tile of the result. -/
abbrev gOut (t : Fin 8) : Vec F S256x768 .f32 := vOut c (X1 m c) (X2 m c) (gX m c) (gB m c) (gB2 m c) t

/-- The eight chunks' transfers: a chunk of the first matrix has landed when its number is below `a`, one of the second
when its number is below `b`. -/
def stCh1 (a : ℕ) (j : Fin 4) : sProp 𝕄 := if j.val < a then free1 c j (X1 m c) else fl1 c j (X1 m c)
def stCh2 (b : ℕ) (j : Fin 4) : sProp 𝕄 := if j.val < b then free2 c j (X2 m c) else fl2 c j (X2 m c)

/-- What the body holds at a state: the transfers and the buffers. -/
def st (a b : ℕ) (Pxb Ph Py Pw2 : sProp 𝕄) : sProp 𝕄 :=
  iprop((stCh1 m c a 0 ∗ stCh1 m c a 1 ∗ stCh1 m c a 2 ∗ stCh1 m c a 3 ∗ stCh2 m c b 0 ∗ stCh2 m c b 1 ∗ stCh2 m c b 2 ∗ stCh2 m c b 3)
    ∗ Pxb ∗ Ph ∗ Py ∗ stAny (F := F) c scW1b ∗ Pw2 ∗ (∃ r, prngReg c r))

abbrev pXb : sProp 𝕄 := stP c scXb rAll (vXB (gX m c))
abbrev pH (j : Fin 4) : sProp 𝕄 := stP c scH (rH j) (vH c (X1 m c) (gX m c) (gB m c) j)
abbrev pY (j : Fin 4) : sProp 𝕄 := stY c (X1 m c) (X2 m c) (gX m c) (gB m c) (gB2 m c) j
abbrev pW2 : sProp 𝕄 := stP c scW2b (rW2 3) (vW2B c (X2 m c) 3)

/-- The invariant before the point of a number. -/
def inv : ℕ → sProp 𝕄
  | 0 => st m c 4 4 (stAny (F := F) c scXb) (stAny (F := F) c scH) (stAny (F := F) c scY) (stAny (F := F) c scW2b)
  | 1 => st m c 1 0 (pXb m c) (pH m c 0) (pY m c 0) (stAny (F := F) c scW2b)
  | 2 => st m c 2 1 (pXb m c) (pH m c 1) (pY m c 1) (stAny (F := F) c scW2b)
  | 3 => st m c 3 2 (pXb m c) (pH m c 2) (pY m c 2) (stAny (F := F) c scW2b)
  | 4 => st m c 4 3 (pXb m c) (pH m c 3) (pY m c 3) (stAny (F := F) c scW2b)
  | _ + 5 => st m c 4 4 (pXb m c) (pH m c 3) (pY m c 3) (pW2 m c)

theorem inv_launch : (Pipeline.ΦD osem0 spec0 H0 (V m) c : sProp 𝕄) ⊢ inv m c 0 := by
  refine (launch_free m c).trans ?_
  unfold stFree inv st stCh1 stCh2
  simp only [Fin.isValue, show ∀ j : Fin 4, j.val < 4 from fun j => j.isLt, if_true]
  iintro ⟨S10, S11, S12, S13, S20, S21, S22, S23, Hxb, Hh, Hy, Hw1, Hw2, Hg⟩
  iframe
theorem launch_inv (n : ℕ) : inv m c (n + 5) ⊢ (Pipeline.ΦD osem0 spec0 H0 (V m) c : sProp 𝕄) := by
  refine BIBase.Entails.trans ?_ (free_launch m c)
  unfold stFree inv st stCh1 stCh2
  simp only [Fin.isValue, show ∀ j : Fin 4, j.val < 4 from fun j => j.isLt, if_true]
  iintro ⟨⟨S10, S11, S12, S13, S20, S21, S22, S23⟩, ⟨%f0, Hxb⟩, ⟨%f1, Hh⟩, ⟨%f2, Hy⟩, Hw1, ⟨%f3, Hw2⟩, Hg⟩
  iframe
  isplitl [Hxb]; · iexists _; iexact Hxb
  isplitl [Hh]; · iexists _; iexact Hh
  isplitl [Hy]; · iexists _; iexact Hy
  iexists _; iexact Hw2

end State

/-! ## The proof data -/

/-- What a point leaves in the result's staging buffer, at the points that write it. -/
def outAfter (c : Dev nD) (t : Fin cfg0.N) : Vec F S256x768 .f32 :=
  gOut m c ⟨(t.val - 4) % 8, Nat.mod_lt _ (by decide)⟩

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAfter m c t
  Φ t := inv m c t.val
  q _ := fullShare
  owed _ := 0

section Data
variable (c : Dev nD) (t : Fin cfg0.N)

theorem A_eq (w : Fin cfg0.W) : (dats m 0 c).A w = V m c (Pipeline.arrRef spec0 w) := by dsimp only [dats]
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = outAfter m c t := by dsimp only [dats]
theorem before0_0 (d) : (dats m 0 c).before 0 t d = gX m c :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf gX iblk; rw [A_eq]; try rfl)
theorem before0_1 (d) : (dats m 0 c).before 1 t d = gB m c 0 :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf gB iblk; rw [A_eq]; try rfl)
theorem before0_2 (d) : (dats m 0 c).before 2 t d = gB2 m c :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf gB2 iblk; rw [A_eq]; try rfl)
theorem iblk0 : iblk m c 0 t = gX m c := rfl
theorem iblk1 : iblk m c 1 t = gB m c 0 := rfl
theorem iblk2 : iblk m c 2 t = gB2 m c := rfl
end Data

/-- At the first four points the result's buffer is idle and not written back; at the others it is not idle. -/
theorem idle_head : ∀ t : Fin cfg0.N, t.val < 4 → cfg0.idle 3 (cfg0.grid.coords t) = true ∧ (cfg0.win 3).flush t = false := by decide
theorem idle_tail : ∀ t : Fin cfg0.N, 4 ≤ t.val → cfg0.idle 3 (cfg0.grid.coords t) = false := by decide
theorem coords_val : ∀ t : Fin cfg0.N, ((grid0.coords t) 0).val = t.val := by decide

end Cert.KernelIdeal.Hand

end
-- ==== Proof.KernelPoints.lean ====
module
public import proofs.«01_k».proof.Proof.KernelState
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## The invariant, conjunct by conjunct -/

section Points
variable (c : Dev nD)

theorem inv_0 : inv m c 0 = iprop((free1 c 0 (X1 m c) ∗ free1 c 1 (X1 m c) ∗ free1 c 2 (X1 m c) ∗ free1 c 3 (X1 m c) ∗ free2 c 0 (X2 m c) ∗ free2 c 1 (X2 m c) ∗ free2 c 2 (X2 m c) ∗ free2 c 3 (X2 m c))
    ∗ stAny (F := F) c scXb ∗ stAny (F := F) c scH ∗ stAny (F := F) c scY ∗ stAny (F := F) c scW1b ∗ stAny (F := F) c scW2b ∗ (∃ r, prngReg c r)) := rfl
theorem inv_1 : inv m c 1 = iprop((free1 c 0 (X1 m c) ∗ fl1 c 1 (X1 m c) ∗ fl1 c 2 (X1 m c) ∗ fl1 c 3 (X1 m c) ∗ fl2 c 0 (X2 m c) ∗ fl2 c 1 (X2 m c) ∗ fl2 c 2 (X2 m c) ∗ fl2 c 3 (X2 m c))
    ∗ pXb m c ∗ pH m c 0 ∗ pY m c 0 ∗ stAny (F := F) c scW1b ∗ stAny (F := F) c scW2b ∗ (∃ r, prngReg c r)) := rfl
theorem inv_2 : inv m c 2 = iprop((free1 c 0 (X1 m c) ∗ free1 c 1 (X1 m c) ∗ fl1 c 2 (X1 m c) ∗ fl1 c 3 (X1 m c) ∗ free2 c 0 (X2 m c) ∗ fl2 c 1 (X2 m c) ∗ fl2 c 2 (X2 m c) ∗ fl2 c 3 (X2 m c))
    ∗ pXb m c ∗ pH m c 1 ∗ pY m c 1 ∗ stAny (F := F) c scW1b ∗ stAny (F := F) c scW2b ∗ (∃ r, prngReg c r)) := rfl
theorem inv_3 : inv m c 3 = iprop((free1 c 0 (X1 m c) ∗ free1 c 1 (X1 m c) ∗ free1 c 2 (X1 m c) ∗ fl1 c 3 (X1 m c) ∗ free2 c 0 (X2 m c) ∗ free2 c 1 (X2 m c) ∗ fl2 c 2 (X2 m c) ∗ fl2 c 3 (X2 m c))
    ∗ pXb m c ∗ pH m c 2 ∗ pY m c 2 ∗ stAny (F := F) c scW1b ∗ stAny (F := F) c scW2b ∗ (∃ r, prngReg c r)) := rfl
theorem inv_4 : inv m c 4 = iprop((free1 c 0 (X1 m c) ∗ free1 c 1 (X1 m c) ∗ free1 c 2 (X1 m c) ∗ free1 c 3 (X1 m c) ∗ free2 c 0 (X2 m c) ∗ free2 c 1 (X2 m c) ∗ free2 c 2 (X2 m c) ∗ fl2 c 3 (X2 m c))
    ∗ pXb m c ∗ pH m c 3 ∗ pY m c 3 ∗ stAny (F := F) c scW1b ∗ stAny (F := F) c scW2b ∗ (∃ r, prngReg c r)) := rfl
theorem inv_5 (n : ℕ) : inv m c (n + 5) = iprop((free1 c 0 (X1 m c) ∗ free1 c 1 (X1 m c) ∗ free1 c 2 (X1 m c) ∗ free1 c 3 (X1 m c) ∗ free2 c 0 (X2 m c) ∗ free2 c 1 (X2 m c) ∗ free2 c 2 (X2 m c) ∗ free2 c 3 (X2 m c))
    ∗ pXb m c ∗ pH m c 3 ∗ pY m c 3 ∗ stAny (F := F) c scW1b ∗ pW2 m c ∗ (∃ r, prngReg c r)) := rfl

/-! ## The body at a point -/

/-- What the body finds at a point and what it leaves: the invariant, what is owed, the windows' buffers (the result's as it
was found, where the point does not write it). -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (match cfg0.idle 3 (cfg0.grid.coords t) with
      | true => match (cfg0.win 3).flush t with
        | false => iprop(∃ d, owns (c : Thread nD τ) (st0_3 t) fullShare ((dats m 0 c).before 3 t d))
        | true => owns (c : Thread nD τ) (st0_3 t) fullShare ((dats m 0 c).after 3 t)
      | false => owns (c : Thread nD τ) (st0_3 t) fullShare ((dats m 0 c).after 3 t)))

/-- The two, with the windows' contents named: at a point that does not write the result and at one that does. -/
theorem pre_eq (t : Fin cfg0.N) (n : ℕ) (hn : t.val = n) : bodyPre m c t = iprop(inv m c n ∗ (dats m 0 c).owesAt () t.castSucc
    ∗ (∃ _ : (cfg0.win 0).block.Idx → Elt F (cfg0.win 0).elt, owns (c : Thread nD τ) (st0_0 t) fullShare (gX m c))
    ∗ (∃ _ : (cfg0.win 1).block.Idx → Elt F (cfg0.win 1).elt, owns (c : Thread nD τ) (st0_1 t) fullShare (gB m c 0))
    ∗ (∃ _ : (cfg0.win 2).block.Idx → Elt F (cfg0.win 2).elt, owns (c : Thread nD τ) (st0_2 t) fullShare (gB2 m c))
    ∗ (∃ d, owns (c : Thread nD τ) (st0_3 t) fullShare ((dats m 0 c).before 3 t d))) := by
  subst hn
  unfold bodyPre
  simp only [before0_0, before0_1, before0_2]
  rfl
theorem post_head (t : Fin cfg0.N) (n : ℕ) (hn : t.val + 1 = n) (ht : t.val < 4) : bodyPost m c t = iprop(inv m c n ∗ (dats m 0 c).owesAt () t.succ
    ∗ owns (c : Thread nD τ) (st0_0 t) fullShare (gX m c) ∗ owns (c : Thread nD τ) (st0_1 t) fullShare (gB m c 0)
    ∗ owns (c : Thread nD τ) (st0_2 t) fullShare (gB2 m c)
    ∗ (∃ d, owns (c : Thread nD τ) (st0_3 t) fullShare ((dats m 0 c).before 3 t d))) := by
  subst hn
  unfold bodyPost
  obtain ⟨h1, h2⟩ := idle_head t ht
  rw [h1, h2, after0_0, after0_1, after0_2, iblk0, iblk1, iblk2]
  rfl
theorem post_tail (t : Fin cfg0.N) (n : ℕ) (hn : t.val + 1 = n) (ht : 4 ≤ t.val) : bodyPost m c t = iprop(inv m c n ∗ (dats m 0 c).owesAt () t.succ
    ∗ owns (c : Thread nD τ) (st0_0 t) fullShare (gX m c) ∗ owns (c : Thread nD τ) (st0_1 t) fullShare (gB m c 0)
    ∗ owns (c : Thread nD τ) (st0_2 t) fullShare (gB2 m c) ∗ owns (c : Thread nD τ) (st0_3 t) fullShare (outAfter m c t)) := by
  subst hn
  unfold bodyPost
  rw [idle_tail t ht, after0_0, after0_1, after0_2, after0_3, iblk0, iblk1, iblk2]
  rfl

/-- Owing anything is what the loop asks back. -/
theorem owes_back (t : Fin (cfg0.N + 1)) : (iprop(∃ W', owes (c : Thread nD τ) 0 W') : sProp 𝕄) ⊢ (dats m 0 c).owesAt () t := by
  unfold Dat.owesAt Pipeline.owesWithin
  rw [show (dats m 0 c).owed t = 0 from rfl]
  iintro ⟨%W', H⟩
  iexists W'; isplitr
  · ipureintro; exact fun _ _ => Or.inl trivial
  iexact H
theorem owes_open (t : Fin (cfg0.N + 1)) : (dats m 0 c).owesAt () t ⊢ (iprop(∃ W', owes (c : Thread nD τ) 0 W') : sProp 𝕄) := by
  unfold Dat.owesAt Pipeline.owesWithin
  rw [show (dats m 0 c).owed t = 0 from rfl]
  iintro ⟨%W', -, H⟩
  iexists W'; iexact H

/-- The first point. -/
theorem body_first (t : Fin cfg0.N) (h0 : t.val = 0) :
    bodyPre m c t ⊢ wp frame (wpE (defs₀ (F := F)) Variants.none c none) Set.univ (bodyAt0 t) (fun _ => bodyPost m c t) := by
  rw [pre_eq m c t 0 h0, post_head m c t 1 (by omega) (by omega), inv_0, inv_1]
  iintro ⟨⟨⟨A0, A1, A2, A3, B0, B1, B2, B3⟩, Hxb, Hh, Hy, Hw1, Hw2, Hg⟩, HO, ⟨%_, W0⟩, ⟨%_, W1⟩, ⟨%_, W2⟩, W3⟩
  ihave HO := owes_open m c t.castSucc $$ HO
  icases HO with ⟨%W, HO⟩
  iapply (run0 c (grid0.coords t) (st0_0 t) _ (st0_1 t) _ (st0_2 t) _ (st0_3 t) _ ((coords_val t).trans h0) (X1 m c) (X2 m c) (gX m c) (gB m c) W _)
  iframe
  iintro ⟨A0, A1, A2, A3, B0, B1, B2, B3, W0, W1, Hxb, Hh, Hw1, HO⟩
  ihave HO := owes_back m c t.succ $$ HO
  iframe

/-- The points 1, 2 and 3. -/
theorem body_mid (t : Fin cfg0.N) (h : t.val = 1 ∨ t.val = 2 ∨ t.val = 3) :
    bodyPre m c t ⊢ wp frame (wpE (defs₀ (F := F)) Variants.none c none) Set.univ (bodyAt0 t) (fun _ => bodyPost m c t) := by
  obtain ⟨j, j', k, hj, ht, hk⟩ : ∃ (j j' : Fin 4) (k : ℕ), ((j = 1 ∧ j' = 0) ∨ (j = 2 ∧ j' = 1) ∨ (j = 3 ∧ j' = 2)) ∧ t.val = j.val ∧ t.val + 1 = k := by
    rcases h with h | h | h
    exacts [⟨1, 0, 2, by decide, h, by rw [h]⟩, ⟨2, 1, 3, by decide, h, by rw [h]⟩, ⟨3, 2, 4, by decide, h, by rw [h]⟩]
  have run := fun W K => runMid c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    hj ((coords_val t).trans ht) (X1 m c) (X2 m c) (gX m c) (gB m c) (gB2 m c) W K
  rw [pre_eq m c t j.val ht, post_head m c t k hk (by omega)]
  rcases hj with ⟨rfl, rfl⟩ | ⟨rfl, rfl⟩ | ⟨rfl, rfl⟩
  · obtain rfl : k = 2 := by rw [← hk, ht]; rfl
    rw [show ((1 : Fin 4) : ℕ) = 1 from rfl, inv_1, inv_2]
    iintro ⟨⟨⟨A0, A1, A2, A3, B0, B1, B2, B3⟩, Hxb, Hh, Hy, Hw1, Hw2, Hg⟩, HO, ⟨%_, W0⟩, ⟨%_, W1⟩, ⟨%_, W2⟩, W3⟩
    ihave HO := owes_open m c t.castSucc $$ HO
    icases HO with ⟨%W, HO⟩
    iapply (run W _)
    iframe
    iintro ⟨A1, B0, W1, W2, Hxb, Hh, Hy, Hw1, Hw2, HO⟩
    ihave HO := owes_back m c t.succ $$ HO
    iframe
  · obtain rfl : k = 3 := by rw [← hk, ht]; rfl
    rw [show ((2 : Fin 4) : ℕ) = 2 from rfl, inv_2, inv_3]
    iintro ⟨⟨⟨A0, A1, A2, A3, B0, B1, B2, B3⟩, Hxb, Hh, Hy, Hw1, Hw2, Hg⟩, HO, ⟨%_, W0⟩, ⟨%_, W1⟩, ⟨%_, W2⟩, W3⟩
    ihave HO := owes_open m c t.castSucc $$ HO
    icases HO with ⟨%W, HO⟩
    iapply (run W _)
    iframe
    iintro ⟨A2, B1, W1, W2, Hxb, Hh, Hy, Hw1, Hw2, HO⟩
    ihave HO := owes_back m c t.succ $$ HO
    iframe
  · obtain rfl : k = 4 := by rw [← hk, ht]; rfl
    rw [show ((3 : Fin 4) : ℕ) = 3 from rfl, inv_3, inv_4]
    iintro ⟨⟨⟨A0, A1, A2, A3, B0, B1, B2, B3⟩, Hxb, Hh, Hy, Hw1, Hw2, Hg⟩, HO, ⟨%_, W0⟩, ⟨%_, W1⟩, ⟨%_, W2⟩, W3⟩
    ihave HO := owes_open m c t.castSucc $$ HO
    icases HO with ⟨%W, HO⟩
    iapply (run W _)
    iframe
    iintro ⟨A3, B2, W1, W2, Hxb, Hh, Hy, Hw1, Hw2, HO⟩
    ihave HO := owes_back m c t.succ $$ HO
    iframe

/-- Point 4. -/
theorem body_four (t : Fin cfg0.N) (h : t.val = 4) :
    bodyPre m c t ⊢ wp frame (wpE (defs₀ (F := F)) Variants.none c none) Set.univ (bodyAt0 t) (fun _ => bodyPost m c t) := by
  have hout : outAfter m c t = gOut m c 0 := congrArg (gOut m c) (Fin.ext (by simp [h]))
  rw [pre_eq m c t 4 h, post_tail m c t (0 + 5) (by omega) (by omega), inv_4, inv_5, hout]
  iintro ⟨⟨⟨A0, A1, A2, A3, B0, B1, B2, B3⟩, Hxb, Hh, Hy, Hw1, Hw2, Hg⟩, HO, ⟨%_, W0⟩, ⟨%_, W1⟩, ⟨%_, W2⟩, ⟨%o, W3⟩⟩
  ihave HO := owes_open m c t.castSucc $$ HO
  icases HO with ⟨%W, HO⟩
  iapply (run4 c (grid0.coords t) (st0_0 t) _ (st0_1 t) _ (st0_2 t) _ (st0_3 t) _ ((coords_val t).trans h) (X1 m c) (X2 m c) (gX m c) (gB m c) (gB2 m c) _ W _)
  iframe
  iintro ⟨B3, W3, Hh, Hy, Hw2, HO⟩
  ihave HO := owes_back m c t.succ $$ HO
  iframe

/-- The points after it. -/
theorem body_tail (t : Fin cfg0.N) (h : 5 ≤ t.val) :
    bodyPre m c t ⊢ wp frame (wpE (defs₀ (F := F)) Variants.none c none) Set.univ (bodyAt0 t) (fun _ => bodyPost m c t) := by
  have hN : t.val < 12 := lt_of_lt_of_eq t.isLt N_0
  obtain ⟨n, hn⟩ : ∃ n, t.val = n + 5 := ⟨t.val - 5, by omega⟩
  have hm : (t.val - 4) % 8 = t.val - 4 := Nat.mod_eq_of_lt (by omega)
  rw [pre_eq m c t (n + 5) hn, post_tail m c t (n + 1 + 5) (by omega) (by omega), inv_5, inv_5]
  unfold outAfter
  iintro ⟨⟨⟨A0, A1, A2, A3, B0, B1, B2, B3⟩, Hxb, Hh, Hy, Hw1, Hw2, Hg⟩, HO, ⟨%_, W0⟩, ⟨%_, W1⟩, ⟨%_, W2⟩, ⟨%o, W3⟩⟩
  ihave HO := owes_open m c t.castSucc $$ HO
  icases HO with ⟨%W, HO⟩
  iapply (runTail c (grid0.coords t) (st0_0 t) _ (st0_1 t) _ (st0_2 t) _ (st0_3 t) _ (t := ⟨(t.val - 4) % 8, Nat.mod_lt _ (by decide)⟩)
    (fun e => by have := congrArg Fin.val e; simp at this; omega) ((coords_val t).trans (by simp only [hm]; omega))
    (X1 m c) (X2 m c) (gX m c) (gB m c) (gB2 m c) _ W _)
  iframe
  iintro ⟨W3, Hh, Hy, Hw2, HO⟩
  ihave HO := owes_back m c t.succ $$ HO
  iframe

theorem sound_body (t : Fin cfg0.N) :
    bodyPre m c t ⊢ wp frame (wpE (defs₀ (F := F)) Variants.none c none) Set.univ (bodyAt0 t) (fun _ => bodyPost m c t) := by
  by_cases h0 : t.val = 0
  · exact body_first m c t h0
  by_cases h1 : t.val < 4
  · exact body_mid m c t (by omega)
  by_cases h4 : t.val = 4
  · exact body_four m c t h4
  · exact body_tail m c t (by omega)

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

end Points
end Cert.KernelIdeal.Hand

end
-- ==== Proof.KernelLaunch.lean ====
module
public import proofs.«01_k».proof.Proof.KernelPoints
@[expose] public section
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

variable (m : (ℓ : Loc nD τ sig) → Buf (Elt F) ℓ) (ρ : Dev nD → PrngReg)

/-! ## The launch -/

set_option maxHeartbeats 800000 in
/-- The host lines around the region. -/
theorem hmainD : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The last line touches neither weight matrix. -/
theorem last_sub : ∀ ops ∈ ([hostOps1] : List (List (HloOp τ sig (Elt F)))), ∀ op ∈ ops,
    op.bufs ⊆ Pipeline.tailRefsBut sig Pipeline.Prefetch.none spec0 H0 := by
  intro ops hops op hop
  obtain rfl := List.mem_singleton.mp hops
  obtain rfl := List.mem_singleton.mp hop
  refine Pipeline.sub_tailRefsBut _ _ _ _ (StableHlo.reshape_bufs_sub ..) (fun k => k.elim0) ?_
  intro b hb
  have hb' : b = main_arg3 ∨ b = main_arg5 := by simpa [H0] using hb
  have hbufs : (StableHlo.TRef.reshape (.of main_call0_v3 : StableHlo.TRef sig ⟨S2048x768, .f32⟩) (.of main_v0 : StableHlo.TRef sig ⟨S1x2048x768, .f32⟩) (rfl : (.f32 : EltTy) = .f32) shapeCasts_S2048x768_S1x2048x768 : HloOp τ sig (Elt F)).bufs
      = {Proc.devRef .tc main_call0_v3, Proc.devRef .tc main_v0} := rfl
  rw [hbufs, Finset.mem_insert, Finset.mem_singleton, not_or]
  rcases hb' with rfl | rfl <;> exact ⟨StableHlo.devRef_ne_of_ne (by decide), StableHlo.devRef_ne_of_ne (by decide)⟩

/-- The contents after the last line. -/
abbrev W : (c : Dev nD) → (b : Ref sig .tc) → Buf (Elt F) ((c.tc : Thread nD τ).loc b) :=
  Pipeline.afterTail₀ cfgs (dats m) 0 (V0 m) [hostOps1]

set_option backward.isDefEq.respectTransparency.types false in
/-- The run: every array as the pipeline leaves it, every other buffer as the last line does, every semaphore at zero. -/
theorem run_main : θ_run defs (onTc (τ := τ) (main (F := F))) (s₀ m ρ) (fun r => Pipeline.FramePost cfgs (dats m) 0 (W m) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := last_sub) (hfresh := sfx_fresh) (hkeep := sfx_keeps)
    (hmain := hmainD m) (hA := A_eq m) (hin := fun c => inv_launch m c) (hout := fun c => launch_inv m c 7)

/-- A buffer the last line does not write, and that is no window's array, ends as it entered the region. -/
theorem W_of (c : Dev nD) (b : Ref sig .tc) (hb : b ≠ main_v0) (ha : ∀ w, Pipeline.arrRef spec0 w ≠ b) : W m c b = V m c b := by
  show Pipeline.afterTail₀ _ _ _ _ _ _ _ = _
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes, Finset.mem_singleton]
      exact StableHlo.devRef_ne_of_ne hb)),
    Pipeline.withArrays_of_ne _ c (V0 m c) _ b ha]

/-- At the region's end the arguments are as launched. -/
theorem args_kept (r) (h : Pipeline.FramePost cfgs (dats m) 0 (W m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have rd : ∀ b : Ref sig .tc, b ∈ Pipeline.restRefs sig spec0 → b ≠ main_v0 → (∀ w, Pipeline.arrRef spec0 w ≠ b) →
      r.2.mem ((c.tc : Thread nD τ).loc b) = V m c b := fun b hr hv ha => ((h c).2 b hr).trans (W_of m c b hv ha)
  exact ⟨(rd main_arg0 (by decide) (by decide) (by decide)).trans (V_main_arg0 m c),
    (rd main_arg1 (by decide) (by decide) (by decide)).trans (V_main_arg1 m c),
    (rd main_arg2 (by decide) (by decide) (by decide)).trans (V_main_arg2 m c),
    (rd main_arg3 (by decide) (by decide) (by decide)).trans (V_main_arg3 m c),
    (rd main_arg4 (by decide) (by decide) (by decide)).trans (V_main_arg4 m c),
    (rd main_arg5 (by decide) (by decide) (by decide)).trans (V_main_arg5 m c),
    (rd main_arg6 (by decide) (by decide) (by decide)).trans (V_main_arg6 m c)⟩

/-- THE FRAME: the run ends with the arguments as launched and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_kept m r h.1, h.2⟩) (run_main m ρ)

end Cert.KernelIdeal.Hand
end
-- ==== Proof.KernelFrame.lean ====
module
public import proofs.«01_k».proof.Proof.KernelLaunch
public import proofs.«01_k».proof.Defs
public import proofs.«01_k».proof.Proof.Gen.Kernel
@[expose] public section
noncomputable section
namespace Cert.Proof
open Idealize.ShloMosaic Idealize.SL.Sem
attribute [local instance] Cert.Kernel.Gen.facts Cert.KernelIdeal.Gen.facts

/-! ## The frame of the kernel as printed: the idealized program is the same program -/

/-- The two programs' body tables are one. -/
theorem tables_eq {F : FTy → Type} [FloatOps F] : (Cert.Kernel.defs₀ (F := F)) = (show Defs Cert.Kernel.nD Cert.Kernel.τ Cert.Kernel.sig (Elt F) Cert.Kernel.Λ₀ from Cert.KernelIdeal.defs₀ (F := F)) := by
  refine congrArg Defs.onTc (funext fun ℓ => funext fun a => ?_)
  obtain ⟨_ | n, h⟩ := ℓ
  · rfl
  · exact absurd h (Nat.not_lt.2 (Nat.le_add_left _ _))

theorem defs_eq {F : FTy → Type} [FloatOps F] : Cert.Kernel.defs (F := F) = Cert.KernelIdeal.defs (F := F) :=
  congrArg (Pipeline.defs (Cert.Kernel.pcfgs (F := F))) tables_eq

theorem frame_kernel : Cert.quiescent_Kernel := fun m g _ => by
  rw [defs_eq]
  exact Cert.KernelIdeal.Hand.frame_main (F := Bits) m g

theorem frame_kernelIdeal : Cert.quiescent_KernelIdeal := fun m g _ => Cert.KernelIdeal.Hand.frame_main (F := Ideal) m g

end Cert.Proof
end
-- ==== Proof.Layer.lean ====
module
public import Idealize.ShloMosaic.PureOps.Ideal
@[expose] public section
noncomputable section
namespace Cert
/-- The feed-forward layer of one token: the hidden units, cut off below zero, then their product with the second matrix. -/
def ffn (x : Fin 768 → EReal) (w1 : Fin 768 → Fin 3072 → EReal) (b1 : Fin 3072 → EReal) (w2 : Fin 3072 → Fin 768 → EReal) (b2 : Fin 768 → EReal) (d : Fin 768) : EReal :=
  (∑ k, max ((∑ i, x i * w1 i k) + b1 k) 0 * w2 k d) + b2 d
end Cert
end
-- ==== Proof.KernelValue.lean ====
module
public import proofs.«01_k».proof.Proof.KernelLaunch
public import proofs.«01_k».proof.Proof.Layer
public import Idealize.ShloMosaic.PureOps.Ideal
public import Idealize.ShloMosaic.Lib.Pointwise
public import Idealize.ShloMosaic.Lib.Pipeline.ValueKit
@[expose] public section
set_option maxRecDepth 16384
noncomputable section
namespace Cert.KernelIdeal.Hand
open Cert.KernelIdeal Cert.KernelIdeal.Gen
open Idealize.ShloMosaic Idealize.ShloMosaic.TcCoe Idealize.ShloMosaic.Pipeline

/-! ## What the kernel's values are, at an index -/

section Pieces
variable (c : Dev nD) (X1 : HB (F := Ideal) c hbW1) (X2 : HB (F := Ideal) c hbW2) (x0 : Vec Ideal S2048x768 .f32)
  (bb : Fin 4 → Vec Ideal S1x3072 .f32) (b2 : Vec Ideal S1x768 .f32)

/-- The number of a chunk's column. -/
def ck (j : Fin 4) (k : Fin 768) : Fin 3072 := ⟨768 * j.val + k.val, by omega⟩

/-- Two indices with the same numbers are one. -/
theorem idx2 {a b : ℕ} (u v : (⟨2, ![a, b]⟩ : Shape).Idx) (h0 : (u 0).val = (v 0).val) (h1 : (u 1).val = (v 1).val) : u = v :=
  funext fun x => by fin_cases x <;> exact Fin.ext (by assumption)

theorem w1_at (j : Fin 4) (i k : Fin 768) : vW1B c X1 j (ix2 i k) = X1 (ix2 i (ck j k)) := by
  unfold vW1B
  pointwise [k0_pay10, w1pay]
  refine congrArg X1 (idx2 (show S768x3072.Idx from ((View.whole main_arg3).slice (Rect.unit (s := S768x3072) (colOff j) S768x768.size (colInb j))).emb (ix2 i k)) _ ?_ ?_) <;> exact (ValueKit.view_emb_slice_whole_unit_val _ _ _ _ _ _).trans (by fin_cases j <;> simp [ck, ix2])

theorem w2_at (j : Fin 4) (i k : Fin 768) : vW2B c X2 j (ix2 i k) = X2 (ix2 (ck j i) k) := by
  unfold vW2B
  pointwise [k0_pay10, w2pay]
  refine congrArg X2 (idx2 (show S3072x768.Idx from ((View.whole main_arg5).slice (Rect.unit (s := S3072x768) (rowOff j) S768x768.size (rowInb j))).emb (ix2 i k)) _ ?_ ?_) <;> exact (ValueKit.view_emb_slice_whole_unit_val _ _ _ _ _ _).trans (by fin_cases j <;> simp [ck, ix2])

/-- The hidden layer's chunk. -/
theorem h_at (j : Fin 4) (r : Fin 2048) (k : Fin 768) : vH c X1 x0 bb j (ix2 r k)
    = max ((∑ i : Fin 768, x0 (ix2 r i) * X1 (ix2 i (ck j k))) + bb j (ix2 0 (ck j k))) 0 := by
  unfold vH
  pointwise [k0_pay11, vXB, k0_pay9]
  simp only [w1_at]
  rw [show bb j (ix2 (⟨colOff j 0, _⟩ : Fin 1) (⟨colOff j 1 + k.val, _⟩ : Fin 3072)) = bb j (ix2 0 (ck j k)) from
    congrArg (bb j) (idx2 _ _ (by fin_cases j <;> rfl) (by fin_cases j <;> rfl))]

theorem y0_at (r : Fin 2048) (d : Fin 768) : vY0 c X1 X2 x0 bb b2 (ix2 r d)
    = (∑ k : Fin 768, vH c X1 x0 bb 0 (ix2 r k) * X2 (ix2 (ck 0 k) d)) + b2 (ix2 0 d) := by
  unfold vY0
  pointwise [k0_pay19]
  simp only [w2_at]

theorem y1_at (r : Fin 2048) (d : Fin 768) : vY1 c X1 X2 x0 bb b2 (ix2 r d)
    = vY0 c X1 X2 x0 bb b2 (ix2 r d) + ∑ k : Fin 768, vH c X1 x0 bb 1 (ix2 r k) * X2 (ix2 (ck 1 k) d) := by
  unfold vY1
  pointwise [k0_pay21]
  simp only [w2_at]

theorem y2_at (r : Fin 2048) (d : Fin 768) : vY2 c X1 X2 x0 bb b2 (ix2 r d)
    = vY1 c X1 X2 x0 bb b2 (ix2 r d) + ∑ k : Fin 768, vH c X1 x0 bb 2 (ix2 r k) * X2 (ix2 (ck 2 k) d) := by
  unfold vY2
  pointwise [k0_pay21]
  simp only [w2_at]

/-- What is stored at the last chunk's columns, and over the whole accumulator, read back by tiles of rows. -/
theorem tile_lt (t : Fin 8) (r : Fin 256) : 256 * t.val + r.val < 2048 := by omega
theorem read_h (v : Vec Ideal S2048x768 .bf16) (r : Fin 2048) (k : Fin 768) (h : 2304 + k.val < 3072) :
    View.canon (Val := Elt Ideal) [⟨rH 3, v⟩] (ix2 r (⟨2304 + k.val, h⟩ : Fin 3072)) = v (ix2 r k) :=
  (congrArg _ (idx2 _ _ (by rw [ValueKit.rect_emb_unit_val]; simp [ix2]) (by rw [ValueKit.rect_emb_unit_val]; simp [ix2]))).trans (View.canon_cons_emb (rH 3) v [] (ix2 r k))
theorem read_y (v : Vec Ideal S2048x768 .f32) (r : Fin 2048) (k : Fin 768) :
    View.canon (Val := Elt Ideal) [⟨rAll, v⟩] (ix2 r k) = v (ix2 r k) :=
  (congrArg _ (idx2 _ _ (by rw [ValueKit.rect_emb_unit_val]; simp [ix2]) (by rw [ValueKit.rect_emb_unit_val]; simp [ix2]))).trans (View.canon_cons_emb rAll v [] (ix2 r k))
theorem ld_h (v : Vec Ideal S2048x768 .bf16) (t : Fin 8) (r : Fin 256) (k : Fin 768) :
    View.ld (View.canon (Val := Elt Ideal) [⟨rH 3, v⟩]) (Rect.unit (s := S2048x3072) (tileOff t) S256x768.size (tInb t)) (ix2 r k)
      = v (ix2 ⟨256 * t.val + r.val, tile_lt t r⟩ k) := by
  rw [← read_h v _ k (by omega)]
  generalize View.canon (Val := Elt Ideal) [⟨rH 3, v⟩] = f
  pointwise
theorem ld_y (v : Vec Ideal S2048x768 .f32) (t : Fin 8) (r : Fin 256) (k : Fin 768) :
    View.ld (View.canon (Val := Elt Ideal) [⟨rAll, v⟩]) (Rect.unit (s := S2048x768) (tileOffY t) S256x768.size (tyInb t)) (ix2 r k)
      = v (ix2 ⟨256 * t.val + r.val, tile_lt t r⟩ k) := by
  rw [← read_y v]
  generalize View.canon (Val := Elt Ideal) [⟨rAll, v⟩] = f
  pointwise

/-- The last chunk's step: the accumulator's tile plus the chunk's product. -/
theorem pay1_at (A : Vec Ideal S256x768 .bf16) (M : Vec Ideal S768x768 .bf16) (B : Vec Ideal S256x768 .f32) (r : Fin 256) (d : Fin 768) :
    k0_pay1 A M B (ix2 r d) = B (ix2 r d) + ∑ k : Fin 768, A (ix2 r k) * M (ix2 k d) := by
  pointwise [k0_pay1]

theorem out_at (t : Fin 8) (r : Fin 256) (d : Fin 768) : vOut c X1 X2 x0 bb b2 t (ix2 r d)
    = vY2 c X1 X2 x0 bb b2 (ix2 ⟨256 * t.val + r.val, tile_lt t r⟩ d)
      + ∑ k : Fin 768, vH c X1 x0 bb 3 (ix2 ⟨256 * t.val + r.val, tile_lt t r⟩ k) * X2 (ix2 (ck 3 k) d) := by
  unfold vOut
  rw [pay1_at, ld_y, Finset.sum_congr rfl fun k _ => by rw [ld_h, w2_at]]

/-- A sum over the hidden units, chunk by chunk. -/
theorem sum_chunks (f : Fin 3072 → EReal) :
    ∑ k, f k = (∑ k, f (ck 0 k)) + (∑ k, f (ck 1 k)) + (∑ k, f (ck 2 k)) + ∑ k, f (ck 3 k) := by
  rw [← Fin.sum_univ_four (fun j => ∑ k, f (ck j k)), ← Fintype.sum_prod_type' (fun j k => f (ck j k))]
  refine (Fintype.sum_equiv (finProdFinEquiv (m := 4) (n := 768)) _ _ fun p => congrArg f (Fin.ext ?_)).symm
  simp [ck, finProdFinEquiv]; omega

/-- A tile's row is the feed-forward layer of the tokens' row. -/
theorem out_ffn (hb : ∀ j, bb j = bb 0) (t : Fin 8) (r : Fin 256) (d : Fin 768) : vOut c X1 X2 x0 bb b2 t (ix2 r d)
    = ffn (fun i => x0 (ix2 ⟨256 * t.val + r.val, by omega⟩ i)) (fun i k => X1 (ix2 i k)) (fun k => bb 0 (ix2 0 k)) (fun k d => X2 (ix2 k d)) (fun d => b2 (ix2 0 d)) d := by
  rw [out_at, y2_at, y1_at, y0_at]
  simp only [h_at, hb]
  rw [ffn, sum_chunks]
  abel

end Pieces
end Cert.KernelIdeal.Hand
end
-- ==== Proof.KernelArray.lean ====
module
public import proofs.«01_k».proof.Proof.KernelValue
public import Idealize.ShloMosaic.Lib.Claim
public import Idealize.ShloMosaic.Lib.StableHlo.RunRead
@[expose] public section
set_option maxRecDepth 16384
noncomputable section
namespace Cert.KernelIdeal.Hand
open Cert.KernelIdeal Cert.KernelIdeal.Gen
open Idealize.ShloMosaic Idealize.ShloMosaic.TcCoe Idealize.ShloMosaic.Pipeline Idealize.SL.Sem

/-! ## The kernel's result, of its arguments -/

variable (m : (ℓ : Loc nD τ sig) → Buf (Elt Ideal) ℓ) (ρ : Dev nD → PrngReg) (c : Dev nD)

/-- The arguments, at an index. -/
abbrev aX : Vec Ideal S1x2048x768 .f32 := m ((c.tc : Thread nD τ).loc main_arg0)
abbrev aW1 : Vec Ideal S768x3072 .f32 := m ((c.tc : Thread nD τ).loc main_arg3)
abbrev aB1 : Vec Ideal S3072 .f32 := m ((c.tc : Thread nD τ).loc main_arg4)
abbrev aW2 : Vec Ideal S3072x768 .f32 := m ((c.tc : Thread nD τ).loc main_arg5)
abbrev aB2 : Vec Ideal S768 .f32 := m ((c.tc : Thread nD τ).loc main_arg6)

theorem V_x : V m c main_call0_v0 = shapeCast S2048x768 (aX m c) shapeCasts_S1x2048x768_S2048x768 := by
  show StableHlo.after (List.flatten [hostOps0]) _ _ = _
  after_reads_simp
  rfl
theorem V_b1 : V m c main_call0_v1 = shapeCast S1x3072 (aB1 m c) shapeCasts_S3072_S1x3072 := by
  show StableHlo.after (List.flatten [hostOps0]) _ _ = _
  after_reads_simp
  rfl
theorem V_b2 : V m c main_call0_v2 = shapeCast S1x768 (aB2 m c) shapeCasts_S768_S1x768 := by
  show StableHlo.after (List.flatten [hostOps0]) _ _ = _
  after_reads_simp
  rfl

theorem index0 : ∀ a, win0_0.index t0_0 a = 0 := by decide
theorem index1 : ∀ a, win0_1.index t0_0 a = 0 := by decide
theorem index2 : ∀ a, win0_2.index t0_0 a = 0 := by decide
/-- The result's tile at a point that writes it back. -/
theorem index3 : ∀ t : Fin cfg0.N, win0_3.index t 0 = t.val - 4 ∧ win0_3.index t 1 = 0 := by decide

theorem gX_at (r : Fin 2048) (i : Fin 768) : gX m c (ix2 r i) = aX m c (ix3 0 r i) := by
  unfold gX iblk
  blk_simp
  rw [show ((win0_0.blk t0_0).view.emb (ix2 r i)) = ix2 r i from by blk_ext [index0], V_x]
  pointwise
theorem gB_at (j : Fin 4) (k : Fin 3072) : gB m c j (ix2 0 k) = aB1 m c (ix1 k) := by
  unfold gB iblk
  blk_simp
  rw [show ((win0_1.blk t0_0).view.emb (ix2 0 k)) = ix2 0 k from by blk_ext [index1], V_b1]
  pointwise
theorem gB2_at (k : Fin 768) : gB2 m c (ix2 0 k) = aB2 m c (ix1 k) := by
  unfold gB2 iblk
  blk_simp
  rw [show ((win0_2.blk t0_0).view.emb (ix2 0 k)) = ix2 0 k from by blk_ext [index2], V_b2]
  pointwise

/-- The feed-forward layer of a token, of the arguments. -/
def layer (r : Fin 2048) (d : Fin 768) : EReal :=
  ffn (fun i => aX m c (ix3 0 r i)) (fun i k => aW1 m c (ix2 i k)) (fun k => aB1 m c (ix1 k)) (fun k d => aW2 m c (ix2 k d)) (fun d => aB2 m c (ix1 d)) d

theorem out_layer (t : Fin 8) (r : Fin 256) (d : Fin 768) : gOut m c t (ix2 r d) = layer m c ⟨256 * t.val + r.val, tile_lt t r⟩ d := by
  unfold gOut
  rw [out_ffn _ _ _ _ _ _ (fun _ => rfl)]
  simp only [gX_at, gB_at, gB2_at]
  unfold layer
  rw [X1, X2, V_main_arg3, V_main_arg5]

theorem arr_out : (dats m 0 c).arrAt 3 cfg0.N = fun i : S2048x768.Idx => layer m c (i 0) (i 1) := by
  refine (dats m 0 c).arrAt_eq_of_covers 3 _ (by decide +kernel) fun t hf y => ?_
  have h4 : 4 ≤ t.val := by
    by_contra h
    rw [(idle_head t (by omega)).2] at hf
    exact absurd hf (by decide)
  have h12 : t.val < 12 := t.isLt
  obtain ⟨r, d, rfl⟩ : ∃ (r : Fin 256) (d : Fin 768), y = ix2 r d := ⟨y 0, y 1, idx2 _ _ rfl rfl⟩
  blk_simp
  rw [after0_3]
  have e : (win0_3.blk t).view.emb (ix2 r d) = ix2 (⟨256 * (t.val - 4) + r.val, by omega⟩ : Fin 2048) d := by
    blk_ext [(index3 t).1, (index3 t).2]
  rw [e]
  refine (out_layer m c _ r d).trans (congrArg (layer m c · d) (Fin.ext ?_))
  show 256 * ((t.val - 4) % 8) + r.val = 256 * (t.val - 4) + r.val
  rw [Nat.mod_eq_of_lt (by omega)]

theorem result_eq : W m c main_v0 = fun i : S1x2048x768.Idx => layer m c (i 1) (i 2) := by
  show Pipeline.afterTail₀ _ _ _ _ _ _ _ = _
  unfold Pipeline.afterTail₀
  after_reads_simp
  have e := Pipeline.withArrays_arr (cfgs 0).spec (by decide) c (V0 m c) (fun w => (dats m 0 c).arrAt w (cfgs 0).N) 3
  refine (congrArg (fun X => fun i => shapeCast main_v0.ty.shape X _ i) (e.trans (arr_out m c))).trans (funext fun i => ?_)
  obtain ⟨z, r, d, rfl⟩ : ∃ (z : Fin 1) (r : Fin 2048) (d : Fin 768), i = ix3 z r d := ⟨i 0, i 1, i 2, funext fun a => by fin_cases a <;> rfl⟩
  pointwise

end Cert.KernelIdeal.Hand
end
-- ==== Proof.RefRun.lean ====
module
public import proofs.«01_k».proof.Defs
public import proofs.«01_k».proof.Proof.Gen.ReferenceIdeal
public import Idealize.ShloMosaic.Lib.Claim
public import Idealize.ShloMosaic.Lib.StableHlo.RunHlo
public import Idealize.ShloMosaic.Lib.StableHlo.RunRead
public import Idealize.ShloMosaic.Lib.Pipeline.Frame
@[expose] public section
noncomputable section
namespace Cert.ReferenceIdeal.Hand
open Cert.ReferenceIdeal Cert.ReferenceIdeal.Facts₀
open Idealize.ShloMosaic Idealize.ShloMosaic.StableHlo Idealize.SL.Sem
attribute [local instance] Cert.ReferenceIdeal.Gen.facts

/-! ## The reference's run -/

/-- The reference's operations, in order. -/
def refLine : {ops : List (HloOp τ sig (Elt Ideal)) // ∀ d, IsSeq (main (F := Ideal) d) ops} := by
  apply Subtype.mk
  hlo_seq

abbrev ops : List (HloOp τ sig (Elt Ideal)) := refLine.1

theorem ops_sub : ops.Forall fun op => op.bufs ⊆ tcRefs τ sig := by
  unfold ops refLine
  simp

theorem ops_fresh : ∀ op ∈ ops, op.fresh = ∅ := by
  intro _ h
  (repeat (cases h with | head => rfl | tail _ h => ?_)); exact nomatch h

/-- The run: every buffer as the operations leave it. -/
theorem run (m : (ℓ : Loc nD τ sig) → Buf (Elt Ideal) ℓ) (g : Dev nD → PrngReg) :
    θ_run (defs (F := Ideal)) (onTc (τ := τ) (main (F := Ideal))) ⟨m, fun _ => 0, g⟩ fun r =>
      ∀ (d : Dev nD) (b : Ref sig .tc), r.2.mem ((d.tc : Thread nD τ).loc b) = after ops (launchContents m d) (Proc.devRef .tc b) :=
  run_hlo defs main refLine.2 (by decide) (by decide) ops_sub ops_fresh m g

/-- The arguments are never written. -/
theorem read_args (V : Valuation τ sig (Elt Ideal)) :
    after ops V (Proc.devRef .tc main_arg0) = V (Proc.devRef .tc main_arg0) ∧ after ops V (Proc.devRef .tc main_arg1) = V (Proc.devRef .tc main_arg1)
    ∧ after ops V (Proc.devRef .tc main_arg2) = V (Proc.devRef .tc main_arg2) ∧ after ops V (Proc.devRef .tc main_arg3) = V (Proc.devRef .tc main_arg3)
    ∧ after ops V (Proc.devRef .tc main_arg4) = V (Proc.devRef .tc main_arg4) ∧ after ops V (Proc.devRef .tc main_arg5) = V (Proc.devRef .tc main_arg5)
    ∧ after ops V (Proc.devRef .tc main_arg6) = V (Proc.devRef .tc main_arg6) := by
  after_reads_simp
  exact ⟨trivial, trivial, trivial, trivial, trivial, trivial, trivial⟩

/-! ## The reference as functions of its arrays -/

abbrev T (S : Shape) := FVec Ideal S .f32

/-- A vector as eight equal columns. -/
def col {α : Type} (v : S2048.Idx → α) : S2048x8.Idx → α := broadcastInDim S2048x8 ![0, 1] bcast_S2048x1_S2048x8_0_1 (broadcastInDim S2048x1 ![0] bcast_S2048_S2048x1_0 v)
/-- A word everywhere. -/
def all8 (w : BitVec 32) : T S2048x8 := broadcastInDim S2048x8 ![] bcast_S_S2048x8 (constant S_ .f32 w)
def all1 (w : BitVec 32) : T S2048 := broadcastInDim S2048 ![] bcast_S_S2048 (constant S_ .f32 w)
/-- The sum over the experts. -/
def rowSum (v : T S2048x8) : T S2048 := Host.reduceAdd v (constant S_ .f32 0x00000000#32) reducesTo_S2048x8_S2048_d1 h_S_

def fX (x : T S1x2048x768) : T S2048x768 := shapeCast S2048x768 x shapeCasts_S1x2048x768_S2048x768
def fLogits (x : T S2048x768) (wg : T S768x8) (bg : T S8) : T S2048x8 :=
  addf (Host.dotGeneral dot_S2048x768_S768x8_S2048x8_1_0_0_1_n_n none x wg)
    (broadcastInDim S2048x8 ![0, 1] bcast_S1x8_S2048x8_0_1 (broadcastInDim S1x8 ![1] bcast_S8_S1x8_1 bg))
def fTop (l : T S2048x8) : T S2048 :=
  maximumf (all1 0xFF800000#32) (Host.reduce FloatOps.maximumf l (constant S_ .f32 0xFF800000#32) reducesTo_S2048x8_S2048_d1 h_S_)
def fExp (l : T S2048x8) : T S2048x8 := Host.exp (subf l (col (fTop l)))
/-- The softmax of the logits. -/
def fGates (l : T S2048x8) : T S2048x8 := Host.divf (fExp l) (col (rowSum (fExp l)))
/-- The number of the largest entry of each row. -/
def fArg (g : T S2048x8) : IVec S2048 32 := fun j =>
  (Host.argReduce reducer_argmax_f32_i32 g (iotaInDim S2048x8 32 1) (constant S_ .f32 0xFF800000#32) (constantI S_ 32 0#32) reducesTo_S2048x8_S2048_d1 h_S_ j).2
/-- The row with a one at a number. -/
def fHot (i : IVec S2048 32) : T S2048x8 :=
  uitofp .f32 (cmpi .eq (col i) (broadcastInDim S2048x8 ![0, 1] bcast_S1x8_S2048x8_0_1 (iotaInDim S1x8 32 1)))
/-- The logits with the first choice struck out. -/
def fStruck (m l : T S2048x8) : T S2048x8 := select (cmpf .une m (all8 0x00000000#32)) (all8 0xFF800000#32) l
/-- How many tokens up to one chose an expert, less one. -/
def fCount (m : T S2048x8) : T S2048x8 :=
  subf (Host.reduceWindowAdd ![2048, 1] ![1, 1] ![2047, 0] ![0, 0] m (broadcastInDim S_ ![] bcast_S_S_ (constant S_ .f32 0x00000000#32)) reduceWindows_S2048x8_S2048x8_w2048s1p2047_0_w1s1p0_0 h_S_)
    (all8 0x3F800000#32)
def fLoc1 (m1 : T S2048x8) : T S2048 := rowSum (mulf (fCount m1) m1)
def fLoc2 (m1 m2 : T S2048x8) : T S2048 :=
  rowSum (mulf (addf (fCount m2) (broadcastInDim S2048x8 ![0, 1] bcast_S1x8_S2048x8_0_1 (broadcastInDim S1x8 ![1] bcast_S8_S1x8_1
    (Host.reduceAdd m1 (constant S_ .f32 0x00000000#32) reducesTo_S2048x8_S8_d0 h_S_)))) m2)
def fGate (g m : T S2048x8) : T S2048 := rowSum (mulf g m)
def fDen (g1 g2 : T S2048) : T S2048 := maximumf (all1 0x34000000#32) (addf g1 g2)
def fSlot (loc : T S2048) : T S2048x2048 :=
  uitofp .f32 (cmpi .eq (broadcastInDim S2048x2048 ![0, 1] bcast_S2048x1_S2048x2048_0_1 (broadcastInDim S2048x1 ![0] bcast_S2048_S2048x1_0 (fptosi 32 loc)))
    (broadcastInDim S2048x2048 ![0, 1] bcast_S1x2048_S2048x2048_0_1 (iotaInDim S1x2048 32 1)))
/-- The share of one of the two choices of every token, at its expert and slot. -/
def fPart (w : T S2048) (m : T S2048x8) (loc : T S2048) : T S2048x8x2048 :=
  mulf (broadcastInDim S2048x8x2048 ![0, 1, 2] bcast_S2048x8x1_S2048x8x2048_0_1_2 (broadcastInDim S2048x8x1 ![0, 1] bcast_S2048x8_S2048x8x1_0_1 (mulf (col w) m)))
    (broadcastInDim S2048x8x2048 ![0, 1, 2] bcast_S2048x1x2048_S2048x8x2048_0_1_2 (broadcastInDim S2048x1x2048 ![0, 2] bcast_S2048x2048_S2048x1x2048_0_2 (fSlot loc)))
def fComb (g1 g2 : T S2048) (m1 m2 : T S2048x8) (l1 l2 : T S2048) : T S2048x8x2048 :=
  addf (fPart (Host.divf g1 (fDen g1 g2)) m1 l1) (fPart (Host.divf g2 (fDen g1 g2)) m2 l2)
def fUsed (k : T S2048x8x2048) : T S2048x8x2048 :=
  uitofp .f32 (cmpf .une k (broadcastInDim S2048x8x2048 ![] bcast_S_S2048x8x2048 (constant S_ .f32 0x00000000#32)))
/-- The feed-forward layer, on the slots of every expert. -/
def fHidden (d : T S8x2048x768) (w1 : T S768x3072) (b1 : T S3072) : T S8x2048x3072 :=
  maximumf (addf (Host.dotGeneral dot_S8x2048x768_S768x3072_S8x2048x3072_2_0_01_1_n_n none d w1)
    (broadcastInDim S8x2048x3072 ![0, 1, 2] bcast_S1x1x3072_S8x2048x3072_0_1_2 (broadcastInDim S1x1x3072 ![2] bcast_S3072_S1x1x3072_2 b1)))
    (broadcastInDim S8x2048x3072 ![] bcast_S_S8x2048x3072 (constant S_ .f32 0x00000000#32))
def fExpert (d : T S8x2048x768) (w1 : T S768x3072) (b1 : T S3072) (w2 : T S3072x768) (b2 : T S768) : T S8x2048x768 :=
  addf (Host.dotGeneral dot_S8x2048x3072_S3072x768_S8x2048x768_2_0_01_1_n_n none (fHidden d w1 b1) w2)
    (broadcastInDim S8x2048x768 ![0, 1, 2] bcast_S1x1x768_S8x2048x768_0_1_2 (broadcastInDim S1x1x768 ![2] bcast_S768_S1x1x768_2 b2))
def fOut (k : T S2048x8x2048) (x : T S2048x768) (w1 : T S768x3072) (b1 : T S3072) (w2 : T S3072x768) (b2 : T S768) : T S1x2048x768 :=
  shapeCast S1x2048x768 (Host.dotGeneral dot_S2048x8x2048_S8x2048x768_S2048x768_21_10_0_2_n_n none k
    (fExpert (Host.dotGeneral dot_S2048x8x2048_S2048x768_S8x2048x768_0_0_12_1_n_n none (fUsed k) x) w1 b1 w2 b2)) shapeCasts_S2048x768_S1x2048x768

/-! ## The operations in five stretches -/

abbrev ops1 : List (HloOp τ sig (Elt Ideal)) := ops.take 19
abbrev ops2 : List (HloOp τ sig (Elt Ideal)) := (ops.drop 19).take 30
abbrev ops3 : List (HloOp τ sig (Elt Ideal)) := (ops.drop 49).take 29
abbrev ops4 : List (HloOp τ sig (Elt Ideal)) := (ops.drop 78).take 37
abbrev ops5 : List (HloOp τ sig (Elt Ideal)) := ops.drop 115

section Stretches
variable (V : Valuation τ sig (Elt Ideal))

theorem read1 : after ops1 V (Proc.devRef .tc main_v0) = fX (V (Proc.devRef .tc main_arg0)) ∧ after ops1 V (Proc.devRef .tc main_v4) = fLogits (fX (V (Proc.devRef .tc main_arg0))) (V (Proc.devRef .tc main_arg1)) (V (Proc.devRef .tc main_arg2))
    ∧ after ops1 V (Proc.devRef .tc main_v15) = fGates (fLogits (fX (V (Proc.devRef .tc main_arg0))) (V (Proc.devRef .tc main_arg1)) (V (Proc.devRef .tc main_arg2))) := by
  after_reads_simp
  exact ⟨rfl, rfl, rfl⟩

theorem read2 : after ops2 V (Proc.devRef .tc main_v17) = fHot (fArg (V (Proc.devRef .tc main_v15)))
    ∧ after ops2 V (Proc.devRef .tc main_v23) = fHot (fArg (fStruck (fHot (fArg (V (Proc.devRef .tc main_v15)))) (V (Proc.devRef .tc main_v4)))) := by
  after_reads_simp
  simp -implicitDefEqProofs only [TRef.toBuf, TRef.ofBuf, cast_cast, cast_eq]
  exact ⟨rfl, rfl⟩

theorem read3 : after ops3 V (Proc.devRef .tc main_v35) = fLoc1 (V (Proc.devRef .tc main_v17)) ∧ after ops3 V (Proc.devRef .tc main_v37) = fLoc2 (V (Proc.devRef .tc main_v17)) (V (Proc.devRef .tc main_v23))
    ∧ after ops3 V (Proc.devRef .tc main_v39) = fGate (V (Proc.devRef .tc main_v15)) (V (Proc.devRef .tc main_v17)) ∧ after ops3 V (Proc.devRef .tc main_v41) = fGate (V (Proc.devRef .tc main_v15)) (V (Proc.devRef .tc main_v23)) := by
  after_reads_simp
  exact ⟨rfl, rfl, rfl, rfl⟩

theorem read4 : after ops4 V (Proc.devRef .tc main_v66) = fComb (V (Proc.devRef .tc main_v39)) (V (Proc.devRef .tc main_v41)) (V (Proc.devRef .tc main_v17)) (V (Proc.devRef .tc main_v23)) (V (Proc.devRef .tc main_v35)) (V (Proc.devRef .tc main_v37)) := by
  after_reads_simp
  rfl

theorem read5 : after ops5 V (Proc.devRef .tc main_v82) = fOut (V (Proc.devRef .tc main_v66)) (V (Proc.devRef .tc main_v0)) (V (Proc.devRef .tc main_arg3)) (V (Proc.devRef .tc main_arg4)) (V (Proc.devRef .tc main_arg5)) (V (Proc.devRef .tc main_arg6)) := by
  after_reads_simp
  rfl

/-- What each stretch leaves of what the later ones read. -/
theorem kept1 : after ops1 V (Proc.devRef .tc main_arg3) = V (Proc.devRef .tc main_arg3) ∧ after ops1 V (Proc.devRef .tc main_arg4) = V (Proc.devRef .tc main_arg4) ∧ after ops1 V (Proc.devRef .tc main_arg5) = V (Proc.devRef .tc main_arg5) ∧ after ops1 V (Proc.devRef .tc main_arg6) = V (Proc.devRef .tc main_arg6) := by
  after_reads_simp
  exact ⟨trivial, trivial, trivial, trivial⟩
theorem kept2 : after ops2 V (Proc.devRef .tc main_arg3) = V (Proc.devRef .tc main_arg3) ∧ after ops2 V (Proc.devRef .tc main_arg4) = V (Proc.devRef .tc main_arg4) ∧ after ops2 V (Proc.devRef .tc main_arg5) = V (Proc.devRef .tc main_arg5) ∧ after ops2 V (Proc.devRef .tc main_arg6) = V (Proc.devRef .tc main_arg6)
    ∧ after ops2 V (Proc.devRef .tc main_v0) = V (Proc.devRef .tc main_v0) ∧ after ops2 V (Proc.devRef .tc main_v15) = V (Proc.devRef .tc main_v15) := by
  after_reads_simp
  exact ⟨trivial, trivial, trivial, trivial, trivial, trivial⟩
theorem kept3 : after ops3 V (Proc.devRef .tc main_arg3) = V (Proc.devRef .tc main_arg3) ∧ after ops3 V (Proc.devRef .tc main_arg4) = V (Proc.devRef .tc main_arg4) ∧ after ops3 V (Proc.devRef .tc main_arg5) = V (Proc.devRef .tc main_arg5) ∧ after ops3 V (Proc.devRef .tc main_arg6) = V (Proc.devRef .tc main_arg6)
    ∧ after ops3 V (Proc.devRef .tc main_v0) = V (Proc.devRef .tc main_v0) ∧ after ops3 V (Proc.devRef .tc main_v17) = V (Proc.devRef .tc main_v17) ∧ after ops3 V (Proc.devRef .tc main_v23) = V (Proc.devRef .tc main_v23) := by
  after_reads_simp
  exact ⟨trivial, trivial, trivial, trivial, trivial, trivial, trivial⟩
theorem kept4 : after ops4 V (Proc.devRef .tc main_arg3) = V (Proc.devRef .tc main_arg3) ∧ after ops4 V (Proc.devRef .tc main_arg4) = V (Proc.devRef .tc main_arg4) ∧ after ops4 V (Proc.devRef .tc main_arg5) = V (Proc.devRef .tc main_arg5) ∧ after ops4 V (Proc.devRef .tc main_arg6) = V (Proc.devRef .tc main_arg6)
    ∧ after ops4 V (Proc.devRef .tc main_v0) = V (Proc.devRef .tc main_v0) := by
  after_reads_simp
  exact ⟨trivial, trivial, trivial, trivial, trivial⟩
end Stretches

theorem ops_cut : ops = ops1 ++ (ops2 ++ (ops3 ++ (ops4 ++ ops5))) := by
  have h (a b : ℕ) : (ops.drop a).drop b = ops.drop (a + b) := List.drop_drop
  rw [ops4, ops5, ← h 78 37, List.take_append_drop, ops3, ← h 49 29, List.take_append_drop, ops2, ← h 19 30, List.take_append_drop, ops1, List.take_append_drop]

/-- The two choices' rows, and the result, of the logits. -/
def hot1 (l : T S2048x8) : T S2048x8 := fHot (fArg (fGates l))
def hot2 (l : T S2048x8) : T S2048x8 := fHot (fArg (fStruck (hot1 l) l))
def comb (l : T S2048x8) : T S2048x8x2048 :=
  fComb (fGate (fGates l) (hot1 l)) (fGate (fGates l) (hot2 l)) (hot1 l) (hot2 l) (fLoc1 (hot1 l)) (fLoc2 (hot1 l) (hot2 l))

/-- The result, of the contents at the start. -/
theorem read_result (V : Valuation τ sig (Elt Ideal)) :
    after ops V (Proc.devRef .tc main_v82) = fOut (comb (fLogits (fX (V (Proc.devRef .tc main_arg0))) (V (Proc.devRef .tc main_arg1)) (V (Proc.devRef .tc main_arg2)))) (fX (V (Proc.devRef .tc main_arg0)))
      (V (Proc.devRef .tc main_arg3)) (V (Proc.devRef .tc main_arg4)) (V (Proc.devRef .tc main_arg5)) (V (Proc.devRef .tc main_arg6)) := by
  rw [ops_cut, after_append, after_append, after_append, after_append, read5, read4,
    (kept4 _).1, (kept4 _).2.1, (kept4 _).2.2.1, (kept4 _).2.2.2.1, (kept4 _).2.2.2.2,
    (read3 _).1, (read3 _).2.1, (read3 _).2.2.1, (read3 _).2.2.2, (kept3 _).1, (kept3 _).2.1, (kept3 _).2.2.1, (kept3 _).2.2.2.1, (kept3 _).2.2.2.2.1, (kept3 _).2.2.2.2.2.1, (kept3 _).2.2.2.2.2.2,
    (read2 _).1, (read2 _).2, (kept2 _).1, (kept2 _).2.1, (kept2 _).2.2.1, (kept2 _).2.2.2.1, (kept2 _).2.2.2.2.1, (kept2 _).2.2.2.2.2,
    (read1 _).1, (read1 _).2.1, (read1 _).2.2, (kept1 _).1, (kept1 _).2.1, (kept1 _).2.2.1, (kept1 _).2.2.2]
  rfl

theorem frame_reference : Cert.quiescent_ReferenceIdeal := fun m g _ =>
  θ_run_mono (run m g) fun r h => ⟨fun c => ⟨(h c main_arg0).trans (read_args _).1, (h c main_arg1).trans (read_args _).2.1,
    (h c main_arg2).trans (read_args _).2.2.1, (h c main_arg3).trans (read_args _).2.2.2.1, (h c main_arg4).trans (read_args _).2.2.2.2.1,
    (h c main_arg5).trans (read_args _).2.2.2.2.2.1, (h c main_arg6).trans (read_args _).2.2.2.2.2.2⟩, sem_eq_zero_of_no_sems (by decide) r.2⟩

end Cert.ReferenceIdeal.Hand
end
-- ==== Proof.RefGate.lean ====
module
public import proofs.«01_k».proof.Proof.RefRun
public import Idealize.ShloMosaic.Lib.Pointwise
public import Idealize.ShloMosaic.Lib.IdealHost
@[expose] public section
set_option maxRecDepth 16384
noncomputable section
namespace Cert.ReferenceIdeal.Hand
open Cert.ReferenceIdeal Cert.ReferenceIdeal.Facts₀
open Idealize.ShloMosaic
attribute [local instance] Cert.ReferenceIdeal.Gen.facts

/-! ## The reference's gates and choices, of finite logits -/

/-- The word of negative infinity. -/
theorem word_bot : Ideal.ofBits .f32 0xFF800000#32 = ⊥ := by simp [Ideal.ofBits, Ideal.ieee]
/-- A bit, as a float. -/
theorem bit_float (p : Prop) [Decidable p] : (FloatOps.uitofp .f32 (BitVec.ofBool (decide p)) : Ideal .f32) = if p then (1 : EReal) else 0 := by
  by_cases h : p <;> simp [h, FloatOps.uitofp]

/-- A sum of reals, as an extended real. -/
theorem sum_real {ι : Type} (s : Finset ι) (f : ι → ℝ) : ∑ i ∈ s, (f i : EReal) = ((∑ i ∈ s, f i : ℝ) : EReal) := by
  classical
  induction s using Finset.induction_on with
  | empty => simp
  | insert i s h ih => rw [Finset.sum_insert h, Finset.sum_insert h, ih, EReal.coe_add]

section Reads
variable (L : T S2048x8) (t : Fin 2048) (e : Fin 8)

theorem col_at {α : Type} (v : S2048.Idx → α) : col v (ix2 t e) = v (ix1 t) := by
  pointwise [col]
theorem rowSum_at (v : T S2048x8) : rowSum v (ix1 t) = ∑ e : Fin 8, v (ix2 t e) := by
  pointwise [rowSum]
theorem fTop_at : fTop L (ix1 t) = max ⊥ (Finset.fold max ⊥ (fun x : Fin 8 => L (ix2 t x)) Finset.univ) := by
  rw [← word_bot]
  pointwise [fTop, all1]
theorem fExp_at : fExp L (ix2 t e) = Ideal.exp (L (ix2 t e) - fTop L (ix1 t)) := by
  rw [← col_at t e (fTop L)]
  pointwise [fExp]
theorem fGates_at : fGates L (ix2 t e) = Ideal.div (fExp L (ix2 t e)) (∑ k : Fin 8, fExp L (ix2 t k)) := by
  rw [← rowSum_at, ← col_at t e (rowSum (fExp L))]
  rfl
theorem fStruck_at (m l : T S2048x8) : fStruck m l (ix2 t e) = if m (ix2 t e) ≠ 0 then ⊥ else l (ix2 t e) := by
  rw [← word_bot]
  pointwise [fStruck, all8]
/-- A row with a one at a number. -/
theorem fHot_at (i : IVec S2048 32) (k : Fin 8) (h : i (ix1 t) = BitVec.ofNat 32 k.val) : fHot i (ix2 t e) = if e = k then 1 else 0 := by
  have hk : (BitVec.ofNat 32 k.val = BitVec.ofNat 32 e.val) ↔ e = k := by
    rw [← BitVec.toNat_inj, BitVec.toNat_ofNat, BitVec.toNat_ofNat, Nat.mod_eq_of_lt (by omega), Nat.mod_eq_of_lt (by omega), Fin.ext_iff]
    exact eq_comm
  rw [← if_congr hk rfl rfl, ← bit_float, ← h, ← col_at t e i]
  pointwise [fHot]
  rfl
end Reads

/-! ### The largest entry -/

/-- A fold that keeps one of two pairs, the one of the greater value, ends at one of the pairs, of the greatest value. -/
theorem fold_greatest {β : Type} (f : EReal × β → EReal × β → EReal × β)
    (hf : ∀ a b, (f a b = a ∨ f a b = b) ∧ a.1 ≤ (f a b).1 ∧ b.1 ≤ (f a b).1) (ps : List (EReal × β)) :
    ∀ a, (ps.foldl f a = a ∨ ps.foldl f a ∈ ps) ∧ a.1 ≤ (ps.foldl f a).1 ∧ ∀ p ∈ ps, p.1 ≤ (ps.foldl f a).1 := by
  induction ps with
  | nil => exact fun a => ⟨.inl rfl, le_rfl, by simp⟩
  | cons q qs ih =>
    intro a
    obtain ⟨h1, h2, h3⟩ := ih (f a q)
    obtain ⟨k1, k2, k3⟩ := hf a q
    rw [List.foldl_cons]
    refine ⟨?_, k2.trans h2, fun p hp => ?_⟩
    · rcases h1 with h1 | h1
      · rw [h1]
        rcases k1 with k1 | k1 <;> simp [k1]
      · exact .inr (List.mem_cons_of_mem _ h1)
    · rcases List.mem_cons.1 hp with rfl | hp
      · exact k3.trans h2
      · exact h3 p hp

theorem argmax_keeps (a b : EReal × BitVec 32) :
    (reducer_argmax_f32_i32 (F := Ideal) a b = a ∨ reducer_argmax_f32_i32 (F := Ideal) a b = b)
      ∧ a.1 ≤ (reducer_argmax_f32_i32 (F := Ideal) a b).1 ∧ b.1 ≤ (reducer_argmax_f32_i32 (F := Ideal) a b).1 := by
  obtain ⟨x, i⟩ := a
  obtain ⟨y, j⟩ := b
  unfold reducer_argmax_f32_i32
  dsimp only
  rw [Ideal.cmpf_def, Ideal.cmpf_def, Ideal.cmpf_def]
  unfold Ideal.cmp Scalar.select IntOp.cmpi IntOp.ori IntOp.andi
  rcases lt_trichotomy x y with h | h | h
  · simp [h.ne, h.le, not_lt.2 h.le]
  · subst h
    cases hs : i.slt j <;> simp [hs]
  · simp [h.ne', h.le, h]

/-- The number found is that of a greatest entry of the row, when the row has one that is not negative infinity. -/
theorem fArg_at (g : T S2048x8) (t : Fin 2048) (h : ∃ e : Fin 8, g (ix2 t e) ≠ ⊥) :
    ∃ k : Fin 8, fArg g (ix1 t) = BitVec.ofNat 32 k.val ∧ ∀ e : Fin 8, g (ix2 t e) ≤ g (ix2 t k) := by
  have hm : ∀ p : EReal × BitVec 32, p ∈ Host.argReduceFiber (s := S2048x8) g (iotaInDim S2048x8 32 1) reducesTo_S2048x8_S2048_d1 (ix1 t)
      ↔ ∃ e : Fin 8, p = (g (ix2 t e), BitVec.ofNat 32 e.val) := by
    intro p
    simp only [Host.argReduceFiber, List.mem_map, List.mem_filter, List.mem_finRange, true_and, decide_eq_true_eq]
    constructor
    · rintro ⟨n, hn, rfl⟩
      generalize S2048x8.rowMajor.symm n = i at hn ⊢
      obtain ⟨r, e, rfl⟩ : ∃ (r : Fin 2048) (e : Fin 8), i = ix2 r e := ⟨i 0, i 1, by funext a; match a with | ⟨0, _⟩ => rfl | ⟨1, _⟩ => rfl⟩
      have h0 := congrArg Fin.val (congrFun hn 0)
      have : r = t := Fin.ext (by
        rw [Shape.ReducesTo.drop_apply_val_of_eq _ _ _ 0] at h0
        exact h0)
      subst this
      exact ⟨e, rfl⟩
    · rintro ⟨e, rfl⟩
      refine ⟨S2048x8.rowMajor (ix2 t e), ?_, by rw [Equiv.symm_apply_apply]; rfl⟩
      rw [Equiv.symm_apply_apply]
      funext a
      match a with
      | ⟨0, _⟩ => exact Fin.ext (Shape.ReducesTo.drop_apply_val_of_eq reducesTo_S2048x8_S2048_d1 (ix2 t e) 0 0)
  have key := fold_greatest _ argmax_keeps (Host.argReduceFiber (s := S2048x8) g (iotaInDim S2048x8 32 1) reducesTo_S2048x8_S2048_d1 (ix1 t)) (⊥, 0#32)
  have hv : fArg g (ix1 t) = ((Host.argReduceFiber (s := S2048x8) g (iotaInDim S2048x8 32 1) reducesTo_S2048x8_S2048_d1 (ix1 t)).foldl
      (reducer_argmax_f32_i32 (F := Ideal)) (⊥, 0#32)).2 := by
    unfold fArg
    rw [Ideal.argReduce_eq_reduce2, Host.reduce2_eq_foldl_fiber]
    rw [show (constant (F := Ideal) S_ .f32 0xFF800000#32) (Shape.Idx.first h_S_) = ⊥ from word_bot]
    rfl
  rw [hv]
  generalize (Host.argReduceFiber (s := S2048x8) g (iotaInDim S2048x8 32 1) reducesTo_S2048x8_S2048_d1 (ix1 t)) = ps at hm key ⊢
  obtain ⟨h1, -, h3⟩ := key
  have h4 : ∀ e : Fin 8, g (ix2 t e) ≤ (ps.foldl (reducer_argmax_f32_i32 (F := Ideal)) (⊥, 0#32)).1 := fun e => h3 _ ((hm _).2 ⟨e, rfl⟩)
  rcases h1 with h1 | h1
  · obtain ⟨e, he⟩ := h
    rw [h1] at h4
    exact absurd (le_bot_iff.1 (h4 e)) he
  · obtain ⟨k, hk⟩ := (hm _).1 h1
    rw [hk] at h4 ⊢
    exact ⟨k, rfl, h4⟩

/-! ### The gates -/

section Gates
variable (L : T S2048x8) (l : Fin 2048 → Fin 8 → ℝ) (hL : ∀ t e, L (ix2 t e) = (l t e : EReal))
include hL

/-- The greatest logit is finite. -/
theorem fTop_real (t : Fin 2048) : ∃ r : ℝ, fTop L (ix1 t) = r := by
  rw [fTop_at]
  refine ⟨(max ⊥ (Finset.fold max ⊥ (fun x : Fin 8 => L (ix2 t x)) Finset.univ)).toReal, (EReal.coe_toReal ?_ ?_).symm⟩
  · refine ne_of_lt (max_lt (by simp) ((Finset.fold_max_lt _).2 ⟨by simp, fun e _ => ?_⟩))
    rw [hL]
    exact EReal.coe_lt_top _
  · refine ne_of_gt (lt_max_of_lt_right ((Finset.lt_fold_max _).2 (.inr ⟨0, Finset.mem_univ _, ?_⟩)))
    rw [hL]
    exact EReal.bot_lt_coe _

/-- The gates are positive reals of sum one. -/
theorem gates_real : ∃ G : Fin 2048 → Fin 8 → ℝ, (∀ t e, 0 < G t e) ∧ (∀ t, ∑ e, G t e = 1) ∧ ∀ t e, fGates L (ix2 t e) = (G t e : EReal) := by
  choose r hr using fTop_real L l hL
  have hE : ∀ t e, fExp L (ix2 t e) = ((Real.exp (l t e - r t) : ℝ) : EReal) := fun t e => by
    rw [fExp_at, hL, hr, ← EReal.coe_sub, Ideal.exp_coe]
  have hS : ∀ t, 0 < ∑ k : Fin 8, Real.exp (l t k - r t) := fun t => Finset.sum_pos (fun k _ => Real.exp_pos _) ⟨0, Finset.mem_univ _⟩
  refine ⟨fun t e => Real.exp (l t e - r t) / ∑ k : Fin 8, Real.exp (l t k - r t), fun t e => div_pos (Real.exp_pos _) (hS t), fun t => ?_, fun t e => ?_⟩
  · rw [← Finset.sum_div, div_self (hS t).ne']
  · rw [fGates_at, Finset.sum_congr rfl fun k _ => hE t k, hE, sum_real]
    unfold Ideal.div
    rw [if_neg (by exact_mod_cast (hS t).ne'), ← EReal.coe_inv, ← EReal.coe_mul, ← div_eq_mul_inv]

/-- The gates and the two different choices of every token, the first's gate being an eighth or more. -/
theorem choices : ∃ (G : Fin 2048 → Fin 8 → ℝ) (a b : Fin 2048 → Fin 8), (∀ t e, 0 < G t e) ∧ (∀ t, 1 / 8 ≤ G t (a t)) ∧ (∀ t, a t ≠ b t)
    ∧ (∀ t e, fGates L (ix2 t e) = (G t e : EReal)) ∧ (∀ t e, hot1 L (ix2 t e) = if e = a t then 1 else 0)
    ∧ (∀ t e, hot2 L (ix2 t e) = if e = b t then 1 else 0) := by
  obtain ⟨G, h0, h1, hG⟩ := gates_real L l hL
  choose a ha hm using fun t => fArg_at (fGates L) t ⟨0, by rw [hG]; exact EReal.coe_ne_bot _⟩
  have hh : ∀ t e, hot1 L (ix2 t e) = if e = a t then 1 else 0 := fun t e => fHot_at t e _ (a t) (ha t)
  have hs : ∀ t e, fStruck (hot1 L) L (ix2 t e) = if e = a t then ⊥ else (l t e : EReal) := fun t e => by
    rw [fStruck_at, hh, hL]
    by_cases h : e = a t <;> simp [h]
  have hx : ∀ t, ∃ e, e ≠ a t := fun t => exists_ne (a t)
  choose b hb hn using fun t => fArg_at (fStruck (hot1 L) L) t (by
    obtain ⟨e, he⟩ := hx t
    exact ⟨e, by rw [hs, if_neg he]; exact EReal.coe_ne_bot _⟩)
  refine ⟨G, a, b, h0, fun t => ?_, fun t h => ?_, hG, hh, fun t e => fHot_at t e _ (b t) (hb t)⟩
  · have hle : ∑ e, G t e ≤ ∑ _e : Fin 8, G t (a t) := Finset.sum_le_sum fun e _ => by
      have := hm t e
      rw [hG, hG] at this
      exact_mod_cast this
    rw [h1, Finset.sum_const, Finset.card_univ, Fintype.card_fin, nsmul_eq_mul] at hle
    push_cast at hle
    linarith
  · obtain ⟨e, he⟩ := hx t
    have := hn t e
    rw [hs, hs, if_neg he, if_pos h.symm] at this
    exact EReal.coe_ne_bot _ (le_bot_iff.1 this)
end Gates

end Cert.ReferenceIdeal.Hand
end
-- ==== Proof.Slots.lean ====
module
public import Mathlib.Data.Fintype.Card
public import Mathlib.Data.Finset.Card
public import Mathlib.Order.Fin.Basic
public import Mathlib.Tactic.Common
@[expose] public section
namespace Cert.Slots

/-! ## The slots of the tokens' two choices

Every token chooses two different experts. Its slot at the first is the number of earlier tokens with the same first choice; its slot at the second is the
number of earlier tokens with the same second choice, after all the tokens that chose that expert first. -/

variable {n e : Nat} (a b : Fin n → Fin e)

/-- The tokens before one that made the same choice. -/
def earlier (t : Fin n) : Finset (Fin n) := Finset.univ.filter fun u => u < t ∧ a u = a t
/-- The tokens that chose an expert. -/
def choosing (k : Fin e) : Finset (Fin n) := Finset.univ.filter fun u => a u = k
/-- A token's slot at its first choice. -/
def slot1 (t : Fin n) : Nat := (earlier a t).card
/-- A token's slot at its second choice. -/
def slot2 (t : Fin n) : Nat := (earlier b t).card + (choosing a (b t)).card

theorem earlier_lt {t u : Fin n} (h : t < u) (hc : a t = a u) : (earlier a t).card < (earlier a u).card := by
  refine Finset.card_lt_card ⟨fun v hv => ?_, fun hs => ?_⟩
  · simp only [earlier, Finset.mem_filter, Finset.mem_univ, true_and] at hv ⊢
    exact ⟨hv.1.trans h, hv.2.trans hc⟩
  · have := hs (show t ∈ earlier a u by simp [earlier, h, hc])
    simp [earlier] at this

/-- Two tokens of one choice with equally many before them are one. -/
theorem earlier_inj {t u : Fin n} (hc : a t = a u) (h : (earlier a t).card = (earlier a u).card) : t = u := by
  rcases lt_trichotomy t u with q | q | q
  · exact absurd h (earlier_lt a q hc).ne
  · exact q
  · exact absurd h (earlier_lt a q hc.symm).ne'

/-- No two tokens share a slot of their first choices. -/
theorem slot1_inj {t u : Fin n} (hc : a t = a u) (h : slot1 a t = slot1 a u) : t = u := earlier_inj a hc h
/-- No two tokens share a slot of their second choices. -/
theorem slot2_inj {t u : Fin n} (hc : b t = b u) (h : slot2 a b t = slot2 a b u) : t = u := by
  refine earlier_inj b hc ?_
  rw [slot2, slot2, hc] at h
  omega

/-- A first choice's slot is below a second choice's, of the same expert. -/
theorem slot1_lt_slot2 {t u : Fin n} (hc : a t = b u) : slot1 a t < slot2 a b u := by
  refine lt_of_lt_of_le (Finset.card_lt_card (t := choosing a (b u)) ⟨fun v hv => ?_, fun hs => ?_⟩) (Nat.le_add_left _ _)
  · simp only [earlier, choosing, Finset.mem_filter, Finset.mem_univ, true_and] at hv ⊢
    exact hv.2.trans hc
  · have := hs (show t ∈ choosing a (b u) by simp [choosing, hc])
    simp [earlier] at this

theorem slot1_bound (t : Fin n) : slot1 a t < n := by
  have := Finset.card_lt_univ_of_notMem (s := earlier a t) (x := t) (by simp [earlier])
  simpa [slot1] using this

/-- With two different choices everywhere, the second's slot is in range too. -/
theorem slot2_bound (hne : ∀ t, a t ≠ b t) (t : Fin n) : slot2 a b t < n := by
  have hd : Disjoint (earlier b t) (choosing a (b t)) := by
    refine Finset.disjoint_left.2 fun u h1 h2 => ?_
    simp only [earlier, choosing, Finset.mem_filter, Finset.mem_univ, true_and] at h1 h2
    exact hne u (h2.trans h1.2.symm)
  have := Finset.card_lt_univ_of_notMem (s := earlier b t ∪ choosing a (b t)) (x := t) (by simp [earlier, choosing, hne t])
  rw [Finset.card_union_of_disjoint hd] at this
  simpa [slot2] using this

end Cert.Slots
-- ==== Proof.RefPlace.lean ====
module
public import proofs.«01_k».proof.Proof.RefGate
public import proofs.«01_k».proof.Proof.Slots
public import Idealize.ShloMosaic.Lib.Routing.OpsOne
@[expose] public section
set_option maxRecDepth 16384
noncomputable section
namespace Cert.ReferenceIdeal.Hand
open Cert.ReferenceIdeal Cert.ReferenceIdeal.Facts₀
open Idealize.ShloMosaic
attribute [local instance] Cert.ReferenceIdeal.Gen.facts

/-! ## The reference's slots -/

theorem foldl_sum {ι : Type} (g : ι → EReal) (ns : List ι) : ∀ v : EReal, ns.foldl (fun r n => r + g n) v = v + (ns.map g).sum := by
  induction ns with
  | nil => simp
  | cons n ns ih => intro v; rw [List.foldl_cons, ih, List.map_cons, List.sum_cons, add_assoc]

/-- A column's entry, zero past its end. -/
def entry (m : T S2048x8) (e : Fin 8) (k : Nat) : EReal := if h : k < 2048 then m (ix2 ⟨k, h⟩ e) else 0

/-- The running sum down a column, as its window reads it. -/
theorem window_at (m : T S2048x8) (t : Fin 2048) (e : Fin 8) :
    Host.reduceWindowAdd ![2048, 1] ![1, 1] ![2047, 0] ![0, 0] m (broadcastInDim S_ ![] bcast_S_S_ (constant S_ .f32 0x00000000#32))
      reduceWindows_S2048x8_S2048x8_w2048s1p2047_0_w1s1p0_0 h_S_ (ix2 t e) = ∑ u : Fin 2048, if u ≤ t then m (ix2 u e) else 0 := by
  have hz : (broadcastInDim S_ ![] bcast_S_S_ (constant (F := Ideal) S_ .f32 0x00000000#32)) (Shape.Idx.first h_S_) = 0 := Ideal.ofBits_zero_f32
  have ht := t.isLt
  unfold Host.reduceWindowAdd
  rw [hz]
  show Ideal.hostReduceWindowAdd _ _ _ _ _ _ _ _ = _
  unfold Ideal.hostReduceWindowAdd Host.reduceWindow
  dsimp only
  refine (foldl_sum _ _ _).trans ?_
  rw [zero_add, ← Fin.sum_univ_def]
  refine (Finset.sum_congr rfl (g := fun n => (fun k : Nat => if 2047 ≤ t.val + k then entry m e (t.val + k - 2047) else 0) n.val) fun n _ => ?_).trans ?_
  · have hn : n.val < 2048 := (n.cast (Routing.numel_col 2048)).isLt
    have hw : (Shape.rowMajor ⟨2, ![2048, 1]⟩).symm n = ix2 (n.cast (Routing.numel_col 2048)) (0 : Fin 1) := Routing.symm_col n
    have hw0 : ((Shape.rowMajor ⟨2, ![2048, 1]⟩).symm n 0).val = n.val := by rw [hw]; rfl
    have hw1 : ((Shape.rowMajor ⟨2, ![2048, 1]⟩).symm n 1).val = 0 := by rw [hw]; rfl
    dsimp only
    split
    · next hin =>
      have h0 : 2047 ≤ t.val * 1 + ((Shape.rowMajor ⟨2, ![2048, 1]⟩).symm n 0).val := (hin 0).1
      rw [if_pos (by omega)]
      unfold entry
      rw [dif_pos (by omega)]
      refine congrArg m (funext fun a => Fin.ext ?_)
      match a with
      | ⟨0, _⟩ =>
        show t.val * 1 + ((Shape.rowMajor ⟨2, ![2048, 1]⟩).symm n 0).val - 2047 = t.val + n.val - 2047
        omega
      | ⟨1, _⟩ =>
        show e.val * 1 + ((Shape.rowMajor ⟨2, ![2048, 1]⟩).symm n 1).val - 0 = e.val
        omega
    · next hin =>
      have he := e.isLt
      rw [if_neg fun h => hin fun a => by
        match a with
        | ⟨0, _⟩ =>
          show 2047 ≤ t.val * 1 + ((Shape.rowMajor ⟨2, ![2048, 1]⟩).symm n 0).val ∧ t.val * 1 + ((Shape.rowMajor ⟨2, ![2048, 1]⟩).symm n 0).val - 2047 < 2048
          omega
        | ⟨1, _⟩ =>
          show 0 ≤ e.val * 1 + ((Shape.rowMajor ⟨2, ![2048, 1]⟩).symm n 1).val ∧ e.val * 1 + ((Shape.rowMajor ⟨2, ![2048, 1]⟩).symm n 1).val - 0 < 8
          omega]
  rw [Fin.sum_univ_eq_sum_range (fun k : Nat => if 2047 ≤ t.val + k then entry m e (t.val + k - 2047) else 0), Routing.numel_col 2048]
  have hu : ∀ u : Fin 2048, (if u ≤ t then m (ix2 u e) else 0) = (fun k : Nat => if k ≤ t.val then entry m e k else 0) u.val := fun u => by
    unfold entry
    dsimp only
    rw [dif_pos u.isLt]
    rfl
  rw [Finset.sum_congr rfl fun u _ => hu u, Fin.sum_univ_eq_sum_range (fun k : Nat => if k ≤ t.val then entry m e k else 0), ← Finset.sum_filter, ← Finset.sum_filter]
  refine Finset.sum_nbij' (fun k => t.val + k - 2047) (fun k => k + 2047 - t.val) ?_ ?_ ?_ ?_ (fun _ _ => rfl)
  all_goals
    intro k hk
    simp only [Finset.mem_filter, Finset.mem_range] at hk ⊢
    omega

section Marks
variable (m : T S2048x8) (a : Fin 2048 → Fin 8) (hm : ∀ t e, m (ix2 t e) = if e = a t then 1 else 0)
include hm

/-- A row weighed by its one is the entry there. -/
theorem sum_mark (v : Fin 8 → EReal) (t : Fin 2048) : ∑ e : Fin 8, v e * m (ix2 t e) = v (a t) := by
  rw [Finset.sum_eq_single (a t) (fun e _ he => by rw [hm, if_neg he, mul_zero]) (fun h => absurd (Finset.mem_univ _) h), hm, if_pos rfl, mul_one]

theorem window_count (t : Fin 2048) (e : Fin 8) : (∑ u : Fin 2048, if u ≤ t then m (ix2 u e) else 0)
    = (((Finset.univ.filter fun u => u ≤ t ∧ a u = e).card : ℝ) : EReal) := by
  have h : ∀ u : Fin 2048, (if u ≤ t then m (ix2 u e) else 0) = ((if u ≤ t ∧ a u = e then (1 : ℝ) else 0 : ℝ) : EReal) := fun u => by
    rw [hm]
    by_cases h1 : u ≤ t <;> by_cases h2 : a u = e <;> simp [h1, h2, eq_comm (a := e)]
  rw [Finset.sum_congr rfl fun u _ => h u, sum_real, Finset.sum_boole]

theorem column_count (e : Fin 8) : (∑ u : Fin 2048, m (ix2 u e)) = (((Slots.choosing a e).card : ℝ) : EReal) := by
  have h : ∀ u : Fin 2048, m (ix2 u e) = ((if a u = e then (1 : ℝ) else 0 : ℝ) : EReal) := fun u => by
    rw [hm]
    by_cases h2 : a u = e <;> simp [h2, eq_comm (a := e)]
  rw [Finset.sum_congr rfl fun u _ => h u, sum_real, Finset.sum_boole]
  rfl

/-- The count at a token's own choice, less one: the earlier tokens of the same choice. -/
theorem fCount_at (t : Fin 2048) : fCount m (ix2 t (a t)) = (((Slots.earlier a t).card : ℝ) : EReal) := by
  have e1 : fCount m (ix2 t (a t)) = (∑ u : Fin 2048, if u ≤ t then m (ix2 u (a t)) else 0) - 1 := by
    rw [← window_at, ← Ideal.ofBits_one_f32]
    rfl
  have e2 : (Finset.univ.filter fun u => u ≤ t ∧ a u = a t) = insert t (Slots.earlier a t) := by
    ext u
    simp only [Slots.earlier, Finset.mem_filter, Finset.mem_univ, true_and, Finset.mem_insert]
    constructor
    · rintro ⟨h1, h2⟩
      rcases h1.eq_or_lt with h | h
      · exact .inl h
      · exact .inr ⟨h, h2⟩
    · rintro (rfl | ⟨h1, h2⟩)
      · exact ⟨le_rfl, rfl⟩
      · exact ⟨h1.le, h2⟩
  rw [e1, window_count m a hm, e2, Finset.card_insert_of_notMem (by simp [Slots.earlier]), ← EReal.coe_one, ← EReal.coe_sub]
  exact congrArg Real.toEReal (by push_cast; ring)

/-- The slot of a token's first choice. -/
theorem fLoc1_at (t : Fin 2048) : fLoc1 m (ix1 t) = ((Slots.slot1 a t : ℝ) : EReal) := by
  unfold fLoc1
  rw [rowSum_at]
  exact (sum_mark m a hm (fun e => fCount m (ix2 t e)) t).trans (fCount_at m a hm t)

/-- The gate of a token's choice. -/
theorem fGate_at (g : T S2048x8) (t : Fin 2048) : fGate g m (ix1 t) = g (ix2 t (a t)) := by
  unfold fGate
  rw [rowSum_at]
  exact sum_mark m a hm (fun e => g (ix2 t e)) t
end Marks

/-- The slot of a token's second choice. -/
theorem fLoc2_at (m1 m2 : T S2048x8) (a b : Fin 2048 → Fin 8) (h1 : ∀ t e, m1 (ix2 t e) = if e = a t then 1 else 0)
    (h2 : ∀ t e, m2 (ix2 t e) = if e = b t then 1 else 0) (t : Fin 2048) : fLoc2 m1 m2 (ix1 t) = ((Slots.slot2 a b t : ℝ) : EReal) := by
  have hc : ∀ e : Fin 8, (broadcastInDim S2048x8 ![0, 1] bcast_S1x8_S2048x8_0_1 (broadcastInDim S1x8 ![1] bcast_S8_S1x8_1
    (Host.reduceAdd m1 (constant S_ .f32 0x00000000#32) reducesTo_S2048x8_S8_d0 h_S_))) (ix2 t e) = ∑ u : Fin 2048, m1 (ix2 u e) := fun e => by
    pointwise
  unfold fLoc2
  rw [rowSum_at]
  refine (sum_mark m2 b h2 (fun e => fCount m2 (ix2 t e) + (broadcastInDim S2048x8 ![0, 1] bcast_S1x8_S2048x8_0_1 (broadcastInDim S1x8 ![1] bcast_S8_S1x8_1
    (Host.reduceAdd m1 (constant S_ .f32 0x00000000#32) reducesTo_S2048x8_S8_d0 h_S_))) (ix2 t e)) t).trans ?_
  dsimp only
  rw [hc, fCount_at m2 b h2, column_count m1 a h1, ← EReal.coe_add, Slots.slot2, Nat.cast_add]

/-- A slot's number as a row with a one there. -/
theorem fSlot_at (l : T S2048) (t : Fin 2048) (k : Nat) (hk : k < 2048) (h : l (ix1 t) = ((k : ℝ) : EReal)) (s : Fin 2048) :
    fSlot l (ix2 t s) = if s.val = k then 1 else 0 := by
  have hw : (FloatOps.fptosi 32 (l (ix1 t)) : BitVec 32) = BitVec.ofNat 32 k := by
    rw [h]
    show BitVec.ofInt 32 (max _ (min _ (if (0 : ℝ) ≤ (k : ℝ) then ⌊(k : ℝ)⌋ else ⌈(k : ℝ)⌉))) = _
    rw [if_pos (Nat.cast_nonneg k), Int.floor_natCast, min_eq_right (by norm_num; omega), max_eq_right (by norm_num)]
    exact BitVec.ofInt_natCast 32 k
  have hb : (BitVec.ofNat 32 k = BitVec.ofNat 32 s.val) ↔ s.val = k := by
    rw [← BitVec.toNat_inj, BitVec.toNat_ofNat, BitVec.toNat_ofNat, Nat.mod_eq_of_lt (by omega), Nat.mod_eq_of_lt (by omega)]
    exact eq_comm
  rw [← if_congr hb rfl rfl, ← bit_float, ← hw]
  pointwise [fSlot]
  rfl

end Cert.ReferenceIdeal.Hand
end
-- ==== Proof.RefShare.lean ====
module
public import proofs.«01_k».proof.Proof.RefPlace
@[expose] public section
set_option maxRecDepth 16384
noncomputable section
namespace Cert.ReferenceIdeal.Hand
open Cert.ReferenceIdeal Cert.ReferenceIdeal.Facts₀
open Idealize.ShloMosaic
attribute [local instance] Cert.ReferenceIdeal.Gen.facts

/-! ## The reference's combining weights -/

/-- The word of the least sum of gates divided by. -/
theorem word_least : Ideal.ofBits .f32 0x34000000#32 ≤ ((1 / 8 : ℝ) : EReal) := by
  simp [Ideal.ofBits, Ideal.ieee, -EReal.coe_mul]
  norm_num

theorem fPart_at (w : T S2048) (m : T S2048x8) (l : T S2048) (t : Fin 2048) (e : Fin 8) (s : Fin 2048) :
    fPart w m l (ix3 t e s) = w (ix1 t) * m (ix2 t e) * fSlot l (ix2 t s) := by
  rw [← col_at t e w]
  pointwise [fPart]

/-- One choice's share, at every expert and slot. -/
theorem fPart_real (w : T S2048) (m : T S2048x8) (l : T S2048) (t : Fin 2048) (p : ℝ) (a : Fin 8) (k : Fin 2048) (hw : w (ix1 t) = (p : EReal))
    (hm : ∀ e, m (ix2 t e) = if e = a then 1 else 0) (hl : l (ix1 t) = ((k.val : ℝ) : EReal)) (e : Fin 8) (s : Fin 2048) :
    fPart w m l (ix3 t e s) = if e = a ∧ s = k then (p : EReal) else 0 := by
  rw [fPart_at, hw, hm, fSlot_at l t k.val k.isLt hl]
  by_cases h1 : e = a <;> by_cases h2 : s = k <;> simp [h1, h2, ← Fin.ext_iff]

/-- A share of two positive gates. -/
theorem share_at (g d : T S2048) (t : Fin 2048) (x y : ℝ) (hg : g (ix1 t) = (x : EReal)) (hd : d (ix1 t) = (y : EReal)) (hy : 0 < y) :
    Host.divf g d (ix1 t) = ((x / y : ℝ) : EReal) := by
  show Ideal.div (g (ix1 t)) (d (ix1 t)) = _
  rw [hg, hd]
  unfold Ideal.div
  rw [if_neg (by exact_mod_cast hy.ne'), ← EReal.coe_inv, ← EReal.coe_mul, ← div_eq_mul_inv]

theorem fDen_at (g1 g2 : T S2048) (t : Fin 2048) (x y : ℝ) (h1 : g1 (ix1 t) = (x : EReal)) (h2 : g2 (ix1 t) = (y : EReal)) (hx : 1 / 8 ≤ x) (hy : 0 < y) :
    fDen g1 g2 (ix1 t) = ((x + y : ℝ) : EReal) := by
  have e : fDen g1 g2 (ix1 t) = max (Ideal.ofBits .f32 0x34000000#32) (g1 (ix1 t) + g2 (ix1 t)) := by
    pointwise [fDen, all1]
  rw [e, h1, h2, ← EReal.coe_add]
  exact max_eq_right (word_least.trans (EReal.coe_le_coe_iff.2 (by linarith)))

/-- What the weights of the tokens' slots are: two positive weights of sum one for every token, each at a slot of an expert that no other weight has. -/
structure Places (k : T S2048x8x2048) where
  a : Fin 2048 → Fin 8
  b : Fin 2048 → Fin 8
  s1 : Fin 2048 → Fin 2048
  s2 : Fin 2048 → Fin 2048
  p : Fin 2048 → ℝ
  q : Fin 2048 → ℝ
  p_pos : ∀ t, 0 < p t
  q_pos : ∀ t, 0 < q t
  add_one : ∀ t, p t + q t = 1
  own1 : ∀ t u, a t = a u → s1 t = s1 u → t = u
  own2 : ∀ t u, b t = b u → s2 t = s2 u → t = u
  own12 : ∀ t u, a t = b u → s1 t ≠ s2 u
  at_ : ∀ t e s, k (ix3 t e s) = (if e = a t ∧ s = s1 t then (p t : EReal) else 0) + (if e = b t ∧ s = s2 t then (q t : EReal) else 0)

/-- The combining weights of finite logits. -/
theorem comb_places (L : T S2048x8) (l : Fin 2048 → Fin 8 → ℝ) (hL : ∀ t e, L (ix2 t e) = (l t e : EReal)) : Nonempty (Places (comb L)) := by
  obtain ⟨G, a, b, h0, h8, hne, hG, h1, h2⟩ := choices L l hL
  have g1 : ∀ t, fGate (fGates L) (hot1 L) (ix1 t) = (G t (a t) : EReal) := fun t => (fGate_at _ a h1 _ t).trans (hG _ _)
  have g2 : ∀ t, fGate (fGates L) (hot2 L) (ix1 t) = (G t (b t) : EReal) := fun t => (fGate_at _ b h2 _ t).trans (hG _ _)
  have hs : ∀ t, 0 < G t (a t) + G t (b t) := fun t => add_pos (h0 _ _) (h0 _ _)
  have hd := fun t => fDen_at _ _ t _ _ (g1 t) (g2 t) (h8 t) (h0 t (b t))
  refine ⟨⟨a, b, fun t => ⟨Slots.slot1 a t, Slots.slot1_bound a t⟩, fun t => ⟨Slots.slot2 a b t, Slots.slot2_bound a b hne t⟩,
    fun t => G t (a t) / (G t (a t) + G t (b t)), fun t => G t (b t) / (G t (a t) + G t (b t)), fun t => div_pos (h0 _ _) (hs t), fun t => div_pos (h0 _ _) (hs t),
    fun t => by rw [← add_div, div_self (hs t).ne'], fun t u hc h => Slots.slot1_inj a hc (Fin.ext_iff.1 h), fun t u hc h => Slots.slot2_inj a b hc (Fin.ext_iff.1 h),
    fun t u hc h => (Slots.slot1_lt_slot2 a b hc).ne (Fin.ext_iff.1 h), fun t e s => ?_⟩⟩
  rw [← fPart_real _ (hot1 L) (fLoc1 (hot1 L)) t _ (a t) ⟨Slots.slot1 a t, Slots.slot1_bound a t⟩ (share_at _ _ t _ _ (g1 t) (hd t) (hs t)) (h1 t) (fLoc1_at _ a h1 t) e s,
    ← fPart_real _ (hot2 L) (fLoc2 (hot1 L) (hot2 L)) t _ (b t) ⟨Slots.slot2 a b t, Slots.slot2_bound a b hne t⟩ (share_at _ _ t _ _ (g2 t) (hd t) (hs t)) (h2 t)
      (fLoc2_at _ _ a b h1 h2 t) e s]
  rfl

end Cert.ReferenceIdeal.Hand
end
-- ==== Proof.RefValue.lean ====
module
public import proofs.«01_k».proof.Proof.RefShare
public import proofs.«01_k».proof.Proof.Layer
@[expose] public section
set_option maxRecDepth 16384
noncomputable section
namespace Cert.ReferenceIdeal.Hand
open Cert.ReferenceIdeal Cert.ReferenceIdeal.Facts₀
open Idealize.ShloMosaic
attribute [local instance] Cert.ReferenceIdeal.Gen.facts

/-! ## The reference's result -/

theorem fX_at (x : T S1x2048x768) (t : Fin 2048) (i : Fin 768) : fX x (ix2 t i) = x (ix3 0 t i) := by
  pointwise [fX]

theorem fUsed_at (k : T S2048x8x2048) (t : Fin 2048) (e : Fin 8) (s : Fin 2048) : fUsed k (ix3 t e s) = if k (ix3 t e s) ≠ 0 then 1 else 0 := by
  rw [← bit_float]
  pointwise [fUsed]

/-- The layer, on the slots of every expert. -/
theorem fExpert_at (d : T S8x2048x768) (w1 : T S768x3072) (b1 : T S3072) (w2 : T S3072x768) (b2 : T S768) (e : Fin 8) (s : Fin 2048) (j : Fin 768) :
    fExpert d w1 b1 w2 b2 (ix3 e s j)
      = ffn (fun i => d (ix3 e s i)) (fun i k => w1 (ix2 i k)) (fun k => b1 (ix1 k)) (fun k d => w2 (ix2 k d)) (fun d => b2 (ix1 d)) j := by
  pointwise [fExpert, fHidden, ffn]

theorem dispatch_at (k : T S2048x8x2048) (x : T S2048x768) (e : Fin 8) (s : Fin 2048) (i : Fin 768) :
    Host.dotGeneral dot_S2048x8x2048_S2048x768_S8x2048x768_0_0_12_1_n_n none k x (ix3 e s i) = ∑ t : Fin 2048, k (ix3 t e s) * x (ix2 t i) := by
  pointwise

theorem fOut_at (k : T S2048x8x2048) (x : T S2048x768) (w1 : T S768x3072) (b1 : T S3072) (w2 : T S3072x768) (b2 : T S768) (t : Fin 2048) (j : Fin 768) (Y : T S8x2048x768)
   (hY : fExpert (Host.dotGeneral dot_S2048x8x2048_S2048x768_S8x2048x768_0_0_12_1_n_n none (fUsed k) x) w1 b1 w2 b2 = Y) :
    fOut k x w1 b1 w2 b2 (ix3 0 t j) = ∑ s : Fin 2048, ∑ e : Fin 8, k (ix3 t e s) * Y (ix3 e s j) := by
  unfold fOut
  rw [hY]
  pointwise

section Slots
variable (k : T S2048x8x2048) (P : Places k)
include P

/-- A slot is used by the token that owns it, and by no other. -/
theorem fUsed_slot (t : Fin 2048) (e : Fin 8) (s : Fin 2048) :
    fUsed k (ix3 t e s) = if (e = P.a t ∧ s = P.s1 t) ∨ (e = P.b t ∧ s = P.s2 t) then 1 else 0 := by
  have hp := P.p_pos t
  have hq := P.q_pos t
  rw [fUsed_at, P.at_]
  by_cases h1 : e = P.a t ∧ s = P.s1 t <;> by_cases h2 : e = P.b t ∧ s = P.s2 t
  · rw [if_pos h1, if_pos h2, ← EReal.coe_add]
    exact (if_pos (by exact_mod_cast (add_pos hp hq).ne')).trans (if_pos (.inl h1)).symm
  · rw [if_pos h1, if_neg h2, add_zero]
    exact (if_pos (by exact_mod_cast hp.ne')).trans (if_pos (.inl h1)).symm
  · rw [if_neg h1, if_pos h2, zero_add]
    exact (if_pos (by exact_mod_cast hq.ne')).trans (if_pos (.inr h2)).symm
  · rw [if_neg h1, if_neg h2, add_zero]
    exact (if_neg (not_not_intro rfl)).trans (if_neg (not_or.2 ⟨h1, h2⟩)).symm

/-- A slot holds the row of the one token that uses it. -/
theorem slot_row (x : T S2048x768) (t : Fin 2048) (e : Fin 8) (s : Fin 2048) (i : Fin 768)
    (h : ∀ u, (e = P.a u ∧ s = P.s1 u) ∨ (e = P.b u ∧ s = P.s2 u) ↔ u = t) :
    Host.dotGeneral dot_S2048x8x2048_S2048x768_S8x2048x768_0_0_12_1_n_n none (fUsed k) x (ix3 e s i) = x (ix2 t i) := by
  rw [dispatch_at, Finset.sum_eq_single t (fun u _ hu => by rw [fUsed_slot k P, if_neg (fun q => hu ((h u).1 q)), zero_mul]) (fun q => absurd (Finset.mem_univ _) q),
    fUsed_slot k P, if_pos ((h t).2 rfl), one_mul]

theorem row_first (x : T S2048x768) (t : Fin 2048) (i : Fin 768) :
    Host.dotGeneral dot_S2048x8x2048_S2048x768_S8x2048x768_0_0_12_1_n_n none (fUsed k) x (ix3 (P.a t) (P.s1 t) i) = x (ix2 t i) := by
  refine slot_row k P x t _ _ i fun u => ⟨fun q => ?_, fun q => .inl (by rw [q]; exact ⟨rfl, rfl⟩)⟩
  rcases q with ⟨q1, q2⟩ | ⟨q1, q2⟩
  · exact (P.own1 t u q1 q2).symm
  · exact absurd q2 (P.own12 t u q1)
theorem row_second (x : T S2048x768) (t : Fin 2048) (i : Fin 768) :
    Host.dotGeneral dot_S2048x8x2048_S2048x768_S8x2048x768_0_0_12_1_n_n none (fUsed k) x (ix3 (P.b t) (P.s2 t) i) = x (ix2 t i) := by
  refine slot_row k P x t _ _ i fun u => ⟨fun q => ?_, fun q => .inr (by rw [q]; exact ⟨rfl, rfl⟩)⟩
  rcases q with ⟨q1, q2⟩ | ⟨q1, q2⟩
  · exact absurd q2.symm (P.own12 u t q1.symm)
  · exact (P.own2 t u q1 q2).symm

omit P in
/-- A weight at one slot picks that slot's entry. -/
theorem sum_slot (p : EReal) (a : Fin 8) (c : Fin 2048) (y : Fin 8 → Fin 2048 → EReal) :
    ∑ s : Fin 2048, ∑ e : Fin 8, (if e = a ∧ s = c then p else 0) * y e s = p * y a c := by
  rw [Finset.sum_eq_single c (fun s _ hs => Finset.sum_eq_zero fun e _ => by rw [if_neg (fun q => hs q.2), zero_mul]) (fun q => absurd (Finset.mem_univ _) q),
    Finset.sum_eq_single a (fun e _ he => by rw [if_neg (fun q => he q.1), zero_mul]) (fun q => absurd (Finset.mem_univ _) q), if_pos ⟨rfl, rfl⟩]

/-- The result, of weights placed so: the layer of every token. -/
theorem fOut_layer (x : T S2048x768) (w1 : T S768x3072) (b1 : T S3072) (w2 : T S3072x768) (b2 : T S768) (t : Fin 2048) (j : Fin 768) :
    fOut k x w1 b1 w2 b2 (ix3 0 t j)
      = ffn (fun i => x (ix2 t i)) (fun i k => w1 (ix2 i k)) (fun k => b1 (ix1 k)) (fun k d => w2 (ix2 k d)) (fun d => b2 (ix1 d)) j := by
  have hp : (0 : EReal) ≤ (P.p t : EReal) := EReal.coe_nonneg.2 (P.p_pos t).le
  have hq : (0 : EReal) ≤ (P.q t : EReal) := EReal.coe_nonneg.2 (P.q_pos t).le
  rw [fOut_at k x w1 b1 w2 b2 t j _ rfl]
  have hsplit : ∀ (s : Fin 2048) (e : Fin 8) (y : EReal), k (ix3 t e s) * y
      = (if e = P.a t ∧ s = P.s1 t then (P.p t : EReal) else 0) * y + (if e = P.b t ∧ s = P.s2 t then (P.q t : EReal) else 0) * y := fun s e y => by
    rw [P.at_]
    exact EReal.right_distrib_of_nonneg (by split_ifs; exacts [hp, le_rfl]) (by split_ifs; exacts [hq, le_rfl])
  rw [Finset.sum_congr rfl fun s _ => (Finset.sum_congr rfl fun e _ => hsplit s e _).trans Finset.sum_add_distrib, Finset.sum_add_distrib]
  rw [sum_slot (P.p t) (P.a t) (P.s1 t) (fun e s => fExpert _ w1 b1 w2 b2 (ix3 e s j)), sum_slot (P.q t) (P.b t) (P.s2 t) (fun e s => fExpert _ w1 b1 w2 b2 (ix3 e s j))]
  rw [fExpert_at, fExpert_at]
  simp only [row_first k P, row_second k P]
  rw [← EReal.right_distrib_of_nonneg hp hq, ← EReal.coe_add, P.add_one, EReal.coe_one, one_mul]
end Slots

/-- The reference's result of finite logits: the layer of every token. -/
theorem result_layer (x : T S2048x768) (wg : T S768x8) (bg : T S8) (w1 : T S768x3072) (b1 : T S3072) (w2 : T S3072x768) (b2 : T S768)
    (h : ∀ t e, ∃ r : ℝ, fLogits x wg bg (ix2 t e) = r) :
    fOut (comb (fLogits x wg bg)) x w1 b1 w2 b2 = fun i : S1x2048x768.Idx =>
      ffn (fun c => x (ix2 (i 1) c)) (fun i k => w1 (ix2 i k)) (fun k => b1 (ix1 k)) (fun k d => w2 (ix2 k d)) (fun d => b2 (ix1 d)) (i 2) := by
  choose l hl using h
  obtain ⟨P⟩ := comb_places _ l hl
  funext i
  obtain ⟨t, j, rfl⟩ : ∃ (t : Fin 2048) (j : Fin 768), i = ix3 0 t j := ⟨i 1, i 2, by
    funext a
    match a with
    | ⟨0, _⟩ => exact Subsingleton.elim (α := Fin 1) _ _
    | ⟨1, _⟩ => rfl
    | ⟨2, _⟩ => rfl⟩
  exact fOut_layer _ P x w1 b1 w2 b2 t j

end Cert.ReferenceIdeal.Hand
end
-- ==== Proof.Finite.lean ====
module
public import proofs.«01_k».proof.Pre_router_finite
public import proofs.«01_k».proof.Proof.RefRun
public import Idealize.ShloMosaic.Lib.Pointwise
public import Idealize.ShloMosaic.Lib.ReduceAll
@[expose] public section
set_option maxRecDepth 16384
noncomputable section
namespace Cert.Pre_router_finite.Hand
open Cert.Pre_router_finite
open Idealize.ShloMosaic

/-! ## What the precondition says -/

/-- The side conditions of the precondition's operations. -/
theorem facts : Facts where
  shapeCasts_S1x2048x768_S2048x768 := by decide
  bcast_S8_S1x8_1 := by decide
  bcast_S1x8_S2048x8_0_1 := by decide
  bcast_S_S2048x8 := by decide
  reducesTo_S2048x8_S_d0_1 := by decide
  h_S_ := by decide
  dot_S2048x768_S768x8_S2048x8_1_0_0_1_n_n_wf := by decide

attribute [local instance] facts Cert.ReferenceIdeal.Gen.facts

theorem word_top : Ideal.ofBits .f32 0x7F800000#32 = ⊤ := by simp [Ideal.ofBits, Ideal.ieee]

/-- An extended real below infinity in size is a real. -/
theorem real_of_abs (v : EReal) (h : max v (-v) < ⊤) : ∃ r : ℝ, v = r := by
  obtain ⟨h1, h2⟩ := max_lt_iff.1 h
  refine ⟨v.toReal, (EReal.coe_toReal h1.ne fun q => ?_).symm⟩
  rw [q, EReal.neg_bot] at h2
  exact absurd h2 (lt_irrefl _)

/-- Under the precondition every logit of the reference is a real. -/
theorem logits_real (x : FVec Ideal S1x2048x768 .f32) (wg : FVec Ideal S768x8 .f32) (bg : FVec Ideal S8 .f32) (w1 : FVec Ideal S768x3072 .f32) (b1 : FVec Ideal S3072 .f32)
    (w2 : FVec Ideal S3072x768 .f32) (b2 : FVec Ideal S768 .f32) (h : fn (F := Ideal) x wg bg w1 b1 w2 b2 = fun _ => 1#1) (t : Fin 2048) (e : Fin 8) :
    ∃ r : ℝ, Cert.ReferenceIdeal.Hand.fLogits (Cert.ReferenceIdeal.Hand.fX x) wg bg (ix2 t e) = r := by
  refine real_of_abs _ ?_
  dsimp only [fn] at h
  have h1 := Host.reduce_andi_all _ _ _ _ _ (congrFun h fun a => a.elim0) (ix2 t e)
  have h2 : BitVec.ofBool (decide (max (Cert.ReferenceIdeal.Hand.fLogits (Cert.ReferenceIdeal.Hand.fX x) wg bg (ix2 t e))
      (-(Cert.ReferenceIdeal.Hand.fLogits (Cert.ReferenceIdeal.Hand.fX x) wg bg (ix2 t e))) < Ideal.ofBits .f32 0x7F800000#32)) = 1#1 := h1
  rw [word_top] at h2
  by_contra hn
  rw [decide_eq_false hn] at h2
  exact absurd h2 (by decide)

end Cert.Pre_router_finite.Hand
end
-- ==== Proof.Algebraic.lean ====
module
public import proofs.«01_k».proof.Defs
public import proofs.«01_k».proof.Proof.KernelArray
public import proofs.«01_k».proof.Proof.RefValue
public import proofs.«01_k».proof.Proof.Finite
@[expose] public section
set_option maxRecDepth 16384
noncomputable section
namespace Cert.Proof
open Idealize.ShloMosaic Idealize.ShloMosaic.TcCoe Idealize.ShloMosaic.StableHlo Idealize.SL.Sem

/-! ## The kernel and the reference give one result -/

/-- Where the logits are finite, both programs end with the layer of every token as their result, and their arguments as launched. -/
theorem algebraic : Cert.algebraic_KernelIdeal_ReferenceIdeal_pre_router_finite (hKernelIdeal := Cert.KernelIdeal.Gen.facts)
    (hReferenceIdeal := Cert.ReferenceIdeal.Gen.facts) (hPre_router_finite := Cert.Pre_router_finite.Hand.facts) := by
  intro m g m' g' hpre hargs
  refine ⟨fun c => fun i : Cert.KernelIdeal.S1x2048x768.Idx => Cert.KernelIdeal.Hand.layer m c (i 1) (i 2), (θ_run _ _ _).mono (fun r h c => ⟨((h.1 c).2 Cert.KernelIdeal.main_v0 (by decide)).trans (Cert.KernelIdeal.Hand.result_eq m c),
    Cert.KernelIdeal.Hand.args_kept m r h.1 c⟩) (Cert.KernelIdeal.Hand.run_main m g), ?_⟩
  refine θ_run_mono (Cert.ReferenceIdeal.Hand.run m' g') fun r h c => ⟨?_, (h c _).trans (Cert.ReferenceIdeal.Hand.read_args _).1,
    (h c _).trans (Cert.ReferenceIdeal.Hand.read_args _).2.1, (h c _).trans (Cert.ReferenceIdeal.Hand.read_args _).2.2.1, (h c _).trans (Cert.ReferenceIdeal.Hand.read_args _).2.2.2.1,
    (h c _).trans (Cert.ReferenceIdeal.Hand.read_args _).2.2.2.2.1, (h c _).trans (Cert.ReferenceIdeal.Hand.read_args _).2.2.2.2.2.1,
    (h c _).trans (Cert.ReferenceIdeal.Hand.read_args _).2.2.2.2.2.2⟩
  refine (h c _).trans ((Cert.ReferenceIdeal.Hand.read_result _).trans ?_)
  obtain ⟨a0, a1, a2, a3, a4, a5, a6⟩ := hargs c
  unfold launchContents
  rw [a0, a1, a2, a3, a4, a5, a6]
  refine (Cert.ReferenceIdeal.Hand.result_layer _ _ _ _ _ _ _ (Cert.Pre_router_finite.Hand.logits_real _ _ _ _ _ _ _ (hpre c))).trans ?_
  funext i
  exact congrArg (fun x : Fin 768 → EReal => ffn x _ _ _ _ _) (funext fun k => Cert.ReferenceIdeal.Hand.fX_at _ (i 1) k)
end Cert.Proof
end
-- ==== Proof.lean ====
/- The certificate's proof: the witnesses of the programs' side conditions, then the claims in their order. -/
module

public import proofs.«01_k».proof.Defs
public import proofs.«01_k».proof.Proof.KernelFrame
public import proofs.«01_k».proof.Proof.Algebraic

@[expose] public section

noncomputable section

namespace Cert.Proof

/-- Every claim of the certificate: the frames of the kernel, the ideal kernel and the reference, the ideal kernel being the kernel, and the equality of the
ideal kernel's result and the reference's where the logits are finite. -/
theorem claim : Cert.Claim :=
  ⟨Cert.Kernel.Gen.facts, Cert.KernelIdeal.Gen.facts, Cert.ReferenceIdeal.Gen.facts, Cert.Pre_router_finite.Hand.facts, frame_kernel, frame_kernelIdeal,
    fun m g _ => frame_kernelIdeal m g trivial, Cert.ReferenceIdeal.Hand.frame_reference, fun m g _ => Cert.ReferenceIdeal.Hand.frame_reference m g trivial, trivial, algebraic⟩

end Cert.Proof

end
